-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_small [hPre_lengths_small : Cert.Pre_lengths_small.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_small [hPre_lengths_small : Cert.Pre_lengths_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_lengths_small [hKernelIdeal : Cert.KernelIdeal.Facts] [hPre_lengths_small : Cert.Pre_lengths_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lengths_small [hReferenceIdeal : Cert.ReferenceIdeal.Facts] [hPre_lengths_small : Cert.Pre_lengths_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal_pre_lengths_small [hKernelIdeal : Cert.KernelIdeal.Facts] [hReferenceIdeal : Cert.ReferenceIdeal.Facts] [hPre_lengths_small : Cert.Pre_lengths_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_small : Cert.Pre_lengths_small.Facts),
    quiescent_Kernel (hKernel := hKernel)
    ∧ quiescent_KernelIdeal (hKernelIdeal := hKernelIdeal)
    ∧ quiescent_KernelIdeal_pre_lengths_small (hKernelIdeal := hKernelIdeal) (hPre_lengths_small := hPre_lengths_small)
    ∧ quiescent_ReferenceIdeal (hReferenceIdeal := hReferenceIdeal)
    ∧ quiescent_ReferenceIdeal_pre_lengths_small (hReferenceIdeal := hReferenceIdeal) (hPre_lengths_small := hPre_lengths_small)
    ∧ preserves_Kernel_KernelIdeal
    ∧ algebraic_KernelIdeal_ReferenceIdeal_pre_lengths_small (hKernelIdeal := hKernelIdeal) (hReferenceIdeal := hReferenceIdeal) (hPre_lengths_small := hPre_lengths_small)
-- ==== Pre_lengths_small.lean ====
abbrev S24x2048x1536 : Shape := ⟨3, ![24, 2048, 1536]⟩
abbrev S24x2048x12 : Shape := ⟨3, ![24, 2048, 12]⟩
abbrev S24x2048 : Shape := ⟨2, ![24, 2048]⟩
abbrev S1536 : Shape := ⟨1, ![1536]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S24x2048x1536 .fp8e4m3) (main_arg1 : FVec F S24x2048x12 .f32) (main_arg2 : FVec F S24x2048x1536 .fp8e5m2) (main_arg3 : FVec F S24x2048 .f32) (main_arg4 : FVec F S24x2048 .f32) (main_arg5 : FVec F S1536 .f32) (main_arg6 : FVec F S1536 .f32) (main_arg7 : IVec S24 32) : IVec S24 1 :=
  let main_c : IVec S_ 32 := constantI S_ 32 2147483392#32
  let main_v0 : IVec S24 32 := broadcastInDim S24 ![] bcast_S_S24 main_c
  let main_v1 : IVec S24 1 := cmpi .sle main_arg7 main_v0
  main_v1
-- ==== Kernel.lean ====
abbrev S24x2048x1536 : Shape := ⟨3, ![24, 2048, 1536]⟩
abbrev S24x2048x12 : Shape := ⟨3, ![24, 2048, 12]⟩
abbrev S24x2048 : Shape := ⟨2, ![24, 2048]⟩
abbrev S1536 : Shape := ⟨1, ![1536]⟩
abbrev S24 : Shape := ⟨1, ![24]⟩
abbrev S12x24x2048 : Shape := ⟨3, ![12, 24, 2048]⟩
abbrev S1x1536 : Shape := ⟨2, ![1, 1536]⟩
abbrev S1x256x1536 : Shape := ⟨3, ![1, 256, 1536]⟩
abbrev S1 : Shape := ⟨1, ![1]⟩
abbrev S12x8x256 : Shape := ⟨3, ![12, 8, 256]⟩
abbrev S8x256 : Shape := ⟨2, ![8, 256]⟩
abbrev S8x1536 : Shape := ⟨2, ![8, 1536]⟩
abbrev S1x1x256 : Shape := ⟨3, ![1, 1, 256]⟩
abbrev S1x256 : Shape := ⟨2, ![1, 256]⟩
abbrev S2x256 : Shape := ⟨2, ![2, 256]⟩
abbrev S16x256 : Shape := ⟨2, ![16, 256]⟩
abbrev S256x16 : Shape := ⟨2, ![256, 16]⟩
abbrev S32x16 : Shape := ⟨2, ![32, 16]⟩
abbrev S32x1 : Shape := ⟨2, ![32, 1]⟩
abbrev S32x128 : Shape := ⟨2, ![32, 128]⟩
abbrev S1x32x128 : Shape := ⟨3, ![1, 32, 128]⟩
abbrev S1x128 : Shape := ⟨2, ![1, 128]⟩
abbrev S8x128 : Shape := ⟨2, ![8, 128]⟩
abbrev S4x8x128 : Shape := ⟨3, ![4, 8, 128]⟩
abbrev S32 : Shape := ⟨1, ![32]⟩

abbrev nBuf : Space → Nat
  | .hbm => 13
  | .vmem => 18
  | .smem => 1
  | _ => 0

abbrev bufTy : (tb : Table) → Fin (tcTables nBuf tb) → BufTy
  | .hbm, ⟨0, _⟩ => ⟨S24x2048x1536, .fp8e4m3⟩
  | .hbm, ⟨1, _⟩ => ⟨S24x2048x12, .f32⟩
  | .hbm, ⟨2, _⟩ => ⟨S24x2048x1536, .fp8e5m2⟩
  | .hbm, ⟨3, _⟩ => ⟨S24x2048, .f32⟩
  | .hbm, ⟨4, _⟩ => ⟨S24x2048, .f32⟩
  | .hbm, ⟨5, _⟩ => ⟨S1536, .f32⟩
  | .hbm, ⟨6, _⟩ => ⟨S1536, .f32⟩
  | .hbm, ⟨7, _⟩ => ⟨S12x24x2048, .f32⟩
  | .hbm, ⟨8, _⟩ => ⟨S1x1536, .f32⟩
  | .hbm, ⟨9, _⟩ => ⟨S1x1536, .f32⟩
  | .hbm, ⟨10, _⟩ => ⟨S24x2048x1536, .bf16⟩
  | .hbm, ⟨11, _⟩ => ⟨S1x1536, .f32⟩
  | .hbm, ⟨12, _⟩ => ⟨S1x1536, .f32⟩
  | .local _ .vmem, ⟨0, _⟩ => ⟨S1x256x1536, .fp8e4m3⟩
  | .local _ .vmem, ⟨1, _⟩ => ⟨S1x256x1536, .fp8e4m3⟩
  | .local _ .vmem, ⟨2, _⟩ => ⟨S12x8x256, .f32⟩
  | .local _ .vmem, ⟨3, _⟩ => ⟨S12x8x256, .f32⟩
  | .local _ .vmem, ⟨4, _⟩ => ⟨S1x256x1536, .fp8e5m2⟩
  | .local _ .vmem, ⟨5, _⟩ => ⟨S1x256x1536, .fp8e5m2⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S1x1536, .f32⟩
  | .local _ .vmem, ⟨11, _⟩ => ⟨S1x1536, .f32⟩
  | .local _ .vmem, ⟨12, _⟩ => ⟨S1x256x1536, .bf16⟩
  | .local _ .vmem, ⟨13, _⟩ => ⟨S1x256x1536, .bf16⟩
  | .local _ .vmem, ⟨14, _⟩ => ⟨S1x1536, .f32⟩
  | .local _ .vmem, ⟨15, _⟩ => ⟨S1x1536, .f32⟩
  | .local _ .vmem, ⟨16, _⟩ => ⟨S8x1536, .f32⟩
  | .local _ .vmem, ⟨17, _⟩ => ⟨S8x1536, .f32⟩
  | .local _ .smem, ⟨0, _⟩ => ⟨S24, .i32⟩
  | _, _ => ⟨S24x2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![24, 8], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0_15 : Index := 0#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v42 : Index := Scalar.indexCast v41
  let c0_16 : Index := 0#32
  ![0, v42.toNat, 0]
def k0_off3 (i : grid0.Coords) : Fin 3 → Nat :=
  let c1 : Index := 1#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v45 : Index := Scalar.indexCast v41
  let c0_17 : Index := 0#32
  ![1, v45.toNat, 0]
def k0_off4 (i : grid0.Coords) : Fin 3 → Nat :=
  let c2 : Index := 2#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v48 : Index := Scalar.indexCast v41
  let c0_18 : Index := 0#32
  ![2, v48.toNat, 0]
def k0_off5 (i : grid0.Coords) : Fin 3 → Nat :=
  let c3 : Index := 3#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v51 : Index := Scalar.indexCast v41
  let c0_19 : Index := 0#32
  ![3, v51.toNat, 0]
def k0_off6 (i : grid0.Coords) : Fin 3 → Nat :=
  let c4 : Index := 4#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v54 : Index := Scalar.indexCast v41
  let c0_20 : Index := 0#32
  ![4, v54.toNat, 0]
def k0_off7 (i : grid0.Coords) : Fin 3 → Nat :=
  let c5 : Index := 5#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v57 : Index := Scalar.indexCast v41
  let c0_21 : Index := 0#32
  ![5, v57.toNat, 0]
def k0_off8 (i : grid0.Coords) : Fin 3 → Nat :=
  let c6 : Index := 6#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v60 : Index := Scalar.indexCast v41
  let c0_22 : Index := 0#32
  ![6, v60.toNat, 0]
def k0_off9 (i : grid0.Coords) : Fin 3 → Nat :=
  let c7 : Index := 7#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v63 : Index := Scalar.indexCast v41
  let c0_23 : Index := 0#32
  ![7, v63.toNat, 0]
def k0_off10 (i : grid0.Coords) : Fin 3 → Nat :=
  let c8 : Index := 8#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v66 : Index := Scalar.indexCast v41
  let c0_24 : Index := 0#32
  ![8, v66.toNat, 0]
def k0_off11 (i : grid0.Coords) : Fin 3 → Nat :=
  let c9 : Index := 9#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v69 : Index := Scalar.indexCast v41
  let c0_25 : Index := 0#32
  ![9, v69.toNat, 0]
def k0_off12 (i : grid0.Coords) : Fin 3 → Nat :=
  let c10 : Index := 10#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v72 : Index := Scalar.indexCast v41
  let c0_26 : Index := 0#32
  ![10, v72.toNat, 0]
def k0_off13 (i : grid0.Coords) : Fin 3 → Nat :=
  let c11 : Index := 11#32
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v75 : Index := Scalar.indexCast v41
  let c0_27 : Index := 0#32
  ![11, v75.toNat, 0]
def k0_off14 (i : grid0.Coords) : Fin 2 → Nat :=
  let arg0 : BitVec 32 := BitVec.ofNat 32 (i 0).val
  let c8_i32 : BitVec 32 := 8#32
  let c0_i32_11 : BitVec 32 := 0#32
  let v32 : BitVec 1 := Scalar.cmpi .eq c8_i32 c0_i32_11
  let c1_i32 : BitVec 32 := 1#32
  let v33 : BitVec 32 := Scalar.select v32 c1_i32 c8_i32
  let v34 : BitVec 32 := Scalar.remsi arg0 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let v78 : Index := Scalar.indexCast v41
  let c0_28 : Index := 0#32
  ![v78.toNat, 0]
def k0_cond2 (i : grid0.Coords) (v1 : BitVec 32) : BitVec 1 :=
  let arg1 : BitVec 32 := BitVec.ofNat 32 (i 1).val
  let c256_i32 : BitVec 32 := 256#32
  let v2 : BitVec 32 := Scalar.muli arg1 c256_i32
  let v8 : BitVec 1 := Scalar.cmpi .sge v2 v1
  let v9 : BitVec 32 := Scalar.extui v8
  let c0_i32_2 : BitVec 32 := 0#32
  let v10 : BitVec 1 := Scalar.cmpi .ne v9 c0_i32_2
  v10

def k0_cond3 (i : grid0.Coords) (v1 : BitVec 32) : BitVec 1 :=
  let arg1 : BitVec 32 := BitVec.ofNat 32 (i 1).val
  let c256_i32 : BitVec 32 := 256#32
  let v2 : BitVec 32 := Scalar.muli arg1 c256_i32
  let v11 : BitVec 1 := Scalar.cmpi .slt v2 v1
  let v12 : BitVec 32 := Scalar.extui v11
  let c0_i32_3 : BitVec 32 := 0#32
  let v13 : BitVec 1 := Scalar.cmpi .ne v12 c0_i32_3
  v13

def k0_cond4 (i : grid0.Coords) : BitVec 1 :=
  let arg0 : BitVec 32 := BitVec.ofNat 32 (i 0).val
  let c23_i32 : BitVec 32 := 23#32
  let v14 : BitVec 1 := Scalar.cmpi .eq arg0 c23_i32
  let arg1 : BitVec 32 := BitVec.ofNat 32 (i 1).val
  let c7_i32 : BitVec 32 := 7#32
  let v15 : BitVec 1 := Scalar.cmpi .eq arg1 c7_i32
  let v16 : BitVec 1 := Scalar.andi v14 v15
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c256_i32 : BitVec 32 := 256#32
  let v2 : BitVec 32 := Scalar.addi v1 c256_i32
  let c1_i32 : BitVec 32 := 1#32
  let v3 : BitVec 32 := Scalar.subi v2 c1_i32
  let c256_i32_0 : BitVec 32 := 256#32
  let v4 : BitVec 32 := Scalar.divsi v3 c256_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg0
  let v18 : BitVec 32 := pf.at 0 (Rect.unit (s := S24) ![v17.toNat] S1.size (k0_off1_inb i)) numel1_S1
  let c256_i32 : BitVec 32 := 256#32
  let v19 : BitVec 32 := Scalar.addi v18 c256_i32
  let c1_i32_4 : BitVec 32 := 1#32
  let v20 : BitVec 32 := Scalar.subi v19 c1_i32_4
  let c256_i32_5 : BitVec 32 := 256#32
  let v21 : BitVec 32 := Scalar.divsi v20 c256_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32_5 c0_i32_8
  let v28 : BitVec 32 := Scalar.extui v27
  let c0_i32_9 : BitVec 32 := 0#32
  let v29 : BitVec 1 := Scalar.cmpi .slt c256_i32_5 c0_i32_9
  let v30 : BitVec 32 := Scalar.extui v29
  let v31 : BitVec 32 := Scalar.subi v28 v30
  let v32 : BitVec 1 := Scalar.cmpi .ne v26 v31
  let v33 : BitVec 32 := Scalar.remsi v20 c256_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let v40 : BitVec 32 := Scalar.minsi arg1 v39
  let c0_i32_14 : BitVec 32 := 0#32
  let c0_i32_15 : BitVec 32 := 0#32
  ![c0_i32_14.toNat, v16.toNat, v40.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c256_i32 : BitVec 32 := 256#32
  let v2 : BitVec 32 := Scalar.addi v1 c256_i32
  let c1_i32 : BitVec 32 := 1#32
  let v3 : BitVec 32 := Scalar.subi v2 c1_i32
  let c256_i32_0 : BitVec 32 := 256#32
  let v4 : BitVec 32 := Scalar.divsi v3 c256_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_3 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg0
  let v18 : BitVec 32 := pf.at 0 (Rect.unit (s := S24) ![v17.toNat] S1.size (k0_off1_inb i)) numel1_S1
  let c256_i32 : BitVec 32 := 256#32
  let v19 : BitVec 32 := Scalar.addi v18 c256_i32
  let c1_i32_4 : BitVec 32 := 1#32
  let v20 : BitVec 32 := Scalar.subi v19 c1_i32_4
  let c256_i32_5 : BitVec 32 := 256#32
  let v21 : BitVec 32 := Scalar.divsi v20 c256_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32_5 c0_i32_8
  let v28 : BitVec 32 := Scalar.extui v27
  let c0_i32_9 : BitVec 32 := 0#32
  let v29 : BitVec 1 := Scalar.cmpi .slt c256_i32_5 c0_i32_9
  let v30 : BitVec 32 := Scalar.extui v29
  let v31 : BitVec 32 := Scalar.subi v28 v30
  let v32 : BitVec 1 := Scalar.cmpi .ne v26 v31
  let v33 : BitVec 32 := Scalar.remsi v20 c256_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let v40 : BitVec 32 := Scalar.minsi arg1 v39
  let c0_i32_14 : BitVec 32 := 0#32
  ![v16.toNat, v40.toNat]

def cc0_transform_4 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg0
  let v18 : BitVec 32 := pf.at 0 (Rect.unit (s := S24) ![v17.toNat] S1.size (k0_off1_inb i)) numel1_S1
  let c256_i32 : BitVec 32 := 256#32
  let v19 : BitVec 32 := Scalar.addi v18 c256_i32
  let c1_i32_4 : BitVec 32 := 1#32
  let v20 : BitVec 32 := Scalar.subi v19 c1_i32_4
  let c256_i32_5 : BitVec 32 := 256#32
  let v21 : BitVec 32 := Scalar.divsi v20 c256_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32_5 c0_i32_8
  let v28 : BitVec 32 := Scalar.extui v27
  let c0_i32_9 : BitVec 32 := 0#32
  let v29 : BitVec 1 := Scalar.cmpi .slt c256_i32_5 c0_i32_9
  let v30 : BitVec 32 := Scalar.extui v29
  let v31 : BitVec 32 := Scalar.subi v28 v30
  let v32 : BitVec 1 := Scalar.cmpi .ne v26 v31
  let v33 : BitVec 32 := Scalar.remsi v20 c256_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let v40 : BitVec 32 := Scalar.minsi arg1 v39
  let c0_i32_14 : BitVec 32 := 0#32
  ![v16.toNat, v40.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S12x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "inv_d" => some ((1 / 1536 : ℝ) : EReal)
  | _ => none
-- ==== ReferenceIdeal.lean ====
abbrev S24x2048x1536 : Shape := ⟨3, ![24, 2048, 1536]⟩
abbrev S24x2048x12 : Shape := ⟨3, ![24, 2048, 12]⟩
abbrev S24x2048 : Shape := ⟨2, ![24, 2048]⟩
abbrev S1536 : Shape := ⟨1, ![1536]⟩
abbrev S24 : Shape := ⟨1, ![24]⟩
abbrev S1x1536 : Shape := ⟨2, ![1, 1536]⟩
abbrev S24x2048x12x128 : Shape := ⟨4, ![24, 2048, 12, 128]⟩
abbrev S24x2048x12x1 : Shape := ⟨4, ![24, 2048, 12, 1]⟩
abbrev S24x2048x1 : Shape := ⟨3, ![24, 2048, 1]⟩
abbrev S1x1x1536 : Shape := ⟨3, ![1, 1, 1536]⟩
abbrev S1x2048 : Shape := ⟨2, ![1, 2048]⟩
abbrev S2048 : Shape := ⟨1, ![2048]⟩
abbrev S24x1 : Shape := ⟨2, ![24, 1]⟩

abbrev nBuf : Space → Nat
  | .hbm => 11
  | .vmem => 11
  | .smem => 0
  | _ => 0

abbrev bufTy : (tb : Table) → Fin (tcTables nBuf tb) → BufTy
  | .hbm, ⟨0, _⟩ => ⟨S24x2048x1536, .fp8e4m3⟩
  | .hbm, ⟨1, _⟩ => ⟨S24x2048x12, .f32⟩
  | .hbm, ⟨2, _⟩ => ⟨S24x2048x1536, .fp8e5m2⟩
  | .hbm, ⟨3, _⟩ => ⟨S24x2048, .f32⟩
  | .hbm, ⟨4, _⟩ => ⟨S24x2048, .f32⟩
  | .hbm, ⟨5, _⟩ => ⟨S1536, .f32⟩
  | .hbm, ⟨6, _⟩ => ⟨S1536, .f32⟩
  | .hbm, ⟨7, _⟩ => ⟨S24, .i32⟩
  | .hbm, ⟨8, _⟩ => ⟨S24x2048x1536, .bf16⟩
  | .hbm, ⟨9, _⟩ => ⟨S1x1536, .f32⟩
  | .hbm, ⟨10, _⟩ => ⟨S1x1536, .f32⟩
  | .local _ .vmem, ⟨0, _⟩ => ⟨S24x2048x1536, .fp8e4m3⟩
  | .local _ .vmem, ⟨1, _⟩ => ⟨S24x2048x12, .f32⟩
  | .local _ .vmem, ⟨2, _⟩ => ⟨S24x2048x1536, .fp8e5m2⟩
  | .local _ .vmem, ⟨3, _⟩ => ⟨S24x2048, .f32⟩
  | .local _ .vmem, ⟨4, _⟩ => ⟨S24x2048, .f32⟩
  | .local _ .vmem, ⟨5, _⟩ => ⟨S1536, .f32⟩
  | .local _ .vmem, ⟨6, _⟩ => ⟨S1536, .f32⟩
  | .local _ .vmem, ⟨7, _⟩ => ⟨S24, .i32⟩
  | .local _ .vmem, ⟨8, _⟩ => ⟨S24x2048x1536, .bf16⟩
  | .local _ .vmem, ⟨9, _⟩ => ⟨S1x1536, .f32⟩
  | .local _ .vmem, ⟨10, _⟩ => ⟨S1x1536, .f32⟩
  | _, _ => ⟨S24x2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x2048x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048x1536 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x2048x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Tables.lean ====
module

public import proofs.«01_k».proof.Proof.Gen.KernelIdeal.Launch

/-!
# Which blocks the lengths pick

The index maps of the inputs read a batch's length and point tiles past its end at its last tile. `tile j len` is the
tile picked; it is never past `j`, so every block lies inside its array whatever the lengths are (`ok_all`). On a tile
that starts below the length it is `j` itself (`tile_eq`).
-/

@[expose] public section

noncomputable section

namespace Cert.KernelIdeal.Tile

open Idealize.ShloMosaic
open Cert.KernelIdeal Cert.KernelIdeal.Facts₀ Cert.KernelIdeal.Facts

variable {F : FTy → Type} [FloatOps F] [Named F]

/-- The number of tiles a length reaches into, as the index maps compute it. -/
def ceilTiles (len : BitVec 32) : BitVec 32 :=
  let v3 : BitVec 32 := Scalar.subi (Scalar.addi len 256#32) 1#32
  let v4 : BitVec 32 := Scalar.divsi v3 256#32
  let v9 : BitVec 32 := Scalar.subi (Scalar.extui (Scalar.cmpi .sgt v3 0#32)) (Scalar.extui (Scalar.cmpi .slt v3 0#32))
  let v14 : BitVec 32 :=
    Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

/-- The tile picked at tile `j` of a batch of length `len`. -/
def tile (j len : BitVec 32) : BitVec 32 := Scalar.minsi j (Scalar.maxsi (Scalar.subi (ceilTiles len) 1#32) 0#32)

/-- The group of eight batches a batch lies in, as the index maps compute it. -/
def group (b : BitVec 32) : BitVec 32 :=
  let v1 : BitVec 32 := Scalar.divsi b 8#32
  let v6 : BitVec 32 := Scalar.subi (Scalar.extui (Scalar.cmpi .sgt b 0#32)) (Scalar.extui (Scalar.cmpi .slt b 0#32))
  let v11 : BitVec 32 :=
    Scalar.subi (Scalar.extui (Scalar.cmpi .sgt 8#32 0#32)) (Scalar.extui (Scalar.cmpi .slt 8#32 0#32))
  let v15 : BitVec 1 := Scalar.andi (Scalar.cmpi .ne v6 v11) (Scalar.cmpi .ne (Scalar.remsi b 8#32) 0#32)
  Scalar.select v15 (Scalar.subi v1 1#32) v1

theorem group_eq : ∀ b : Fin 24, (group (BitVec.ofNat 32 b.val)).toNat = b.val / 8 := by decide

theorem toInt_ofNat {n : Nat} (h : n < 2 ^ 31) : (BitVec.ofNat 32 n).toInt = n := by
  rw [BitVec.toInt_eq_toNat_cond, BitVec.toNat_ofNat]
  rw [Nat.mod_eq_of_lt (by omega), if_pos (by omega)]

/-- A small nonnegative integer's word reads back as the number. -/
theorem toNat_of_toInt {x : BitVec 32} {e : Int} (h : x.toInt = e) (h0 : 0 ≤ e) : x.toNat = e.toNat := by
  rw [BitVec.toInt_eq_toNat_cond] at h
  have := x.isLt
  split at h <;> omega

theorem toInt_minsi (a b : BitVec 32) : (Scalar.minsi a b).toInt = min a.toInt b.toInt := by
  rw [Scalar.minsi, IntOp.minsi]
  by_cases hs : a.slt b
  · rw [if_pos hs]; rw [BitVec.slt_iff_toInt_lt] at hs; omega
  · rw [if_neg hs]; rw [BitVec.slt_iff_toInt_lt] at hs; omega

theorem toInt_maxsi (a b : BitVec 32) : (Scalar.maxsi a b).toInt = max a.toInt b.toInt := by
  rw [Scalar.maxsi, IntOp.maxsi]
  by_cases hs : b.slt a
  · rw [if_pos hs]; rw [BitVec.slt_iff_toInt_lt] at hs; omega
  · rw [if_neg hs]; rw [BitVec.slt_iff_toInt_lt] at hs; omega

/-- A tile is never past the grid's. -/
theorem tile_le (j : Fin 8) (len : BitVec 32) : (tile (BitVec.ofNat 32 j.val) len).toNat ≤ j.val := by
  unfold tile
  have hj := j.isLt
  have h : (Scalar.minsi (BitVec.ofNat 32 j.val) (Scalar.maxsi (Scalar.subi (ceilTiles len) 1#32) 0#32)).toInt
      = min (j.val : Int) (max (Scalar.subi (ceilTiles len) 1#32).toInt 0) := by
    rw [toInt_minsi, toInt_maxsi, toInt_ofNat (by omega)]; rfl
  rw [toNat_of_toInt h (by omega)]
  omega

/-- How many tiles a positive length reaches into. -/
theorem ceilTiles_eq {len : BitVec 32} (h0 : 0 < len.toInt) (h1 : len.toInt ≤ 2 ^ 31 - 256) :
    (ceilTiles len).toInt = (len.toInt + 255) / 256 := by
  have hv : (Scalar.subi (Scalar.addi len 256#32) 1#32).toInt = len.toInt + 255 := by
    have e : Scalar.subi (Scalar.addi len 256#32) 1#32 = len + 255#32 := by
      change len + 256#32 - 1#32 = len + 255#32
      bv_omega
    rw [e, BitVec.toInt_add, show (255#32 : BitVec 32).toInt = 255 from rfl, Int.bmod_def]
    split <;> omega
  unfold ceilTiles
  generalize Scalar.subi (Scalar.addi len 256#32) 1#32 = v3 at hv
  have hs : Scalar.cmpi .sgt v3 0#32 = 1#1 := by
    have : (0#32).slt v3 = true := by rw [BitVec.slt_iff_toInt_lt, hv]; change (0 : Int) < _; omega
    simp only [Scalar.cmpi, IntOp.cmpi, this]; rfl
  have hl : Scalar.cmpi .slt v3 0#32 = 0#1 := by
    have : v3.slt 0#32 = false := by
      rw [Bool.eq_false_iff, Ne, BitVec.slt_iff_toInt_lt, hv]; change ¬ (_ < (0 : Int)); omega
    simp only [Scalar.cmpi, IntOp.cmpi, this]; rfl
  have hd := Affine.divsi (Affine.word v3) (Affine.word 256#32) (e := v3.toInt / 256) ⟨rfl, by omega, by decide⟩
  have hd' : (Scalar.divsi v3 256#32).toInt = v3.toInt / 256 := by
    unfold Affine.IsInt at hd; exact hd
  simp only [hs, hl]
  rw [← hv, ← hd']
  congr 1
  have hz : ∀ x : BitVec 1, Scalar.andi (Scalar.cmpi .ne (Scalar.subi (Scalar.extui (1#1 : BitVec 1) : BitVec 32) (Scalar.extui (0#1 : BitVec 1)))
      (Scalar.subi (Scalar.extui (Scalar.cmpi .sgt (256#32 : BitVec 32) 0#32) : BitVec 32) (Scalar.extui (Scalar.cmpi .slt (256#32 : BitVec 32) 0#32)))) x = 0#1 := by
    decide
  rw [hz]; rfl

/-- On a tile that starts below the length the tile picked is the tile itself. -/
theorem tile_eq (j : Fin 8) {len : BitVec 32} (h0 : (256 * j.val : Int) < len.toInt) (h1 : len.toInt ≤ 2 ^ 31 - 256) :
    (tile (BitVec.ofNat 32 j.val) len).toNat = j.val := by
  have hj := j.isLt
  have hc := ceilTiles_eq (by omega) h1
  have e : (Scalar.subi (ceilTiles len) 1#32).toInt = (len.toInt + 255) / 256 - 1 := by
    change (ceilTiles len - 1#32).toInt = _
    rw [BitVec.toInt_sub, hc, show (1#32 : BitVec 32).toInt = 1 from rfl, Int.bmod_def]
    split <;> omega
  have h : (tile (BitVec.ofNat 32 j.val) len).toInt = j.val := by
    unfold tile
    rw [toInt_minsi, toInt_maxsi, toInt_ofNat (by omega), e, show (0#32 : BitVec 32).toInt = 0 from rfl]
    omega
  rw [toNat_of_toInt h (by omega)]; rfl

variable (pf : pre0.Contents (Elt F)) (i : grid0.Coords)

/-- The length of the grid point's batch. -/
def word [Cert.KernelIdeal.Facts] : BitVec 32 :=
  pf.at 0 (Rect.unit (s := S24) (k0_off1 i) S1.size (k0_off1_inb i)) numel1_S1

variable [Cert.KernelIdeal.Facts]

theorem transform_0_eq : cc0_transform_0 k0_off1_inb numel1_S1 pf i
    = ![(BitVec.ofNat 32 (i 0).val).toNat, (tile (BitVec.ofNat 32 (i 1).val) (word pf i)).toNat, 0] := rfl

theorem transform_1_eq : cc0_transform_1 k0_off1_inb numel1_S1 pf i
    = ![0, (group (BitVec.ofNat 32 (i 0).val)).toNat, (tile (BitVec.ofNat 32 (i 1).val) (word pf i)).toNat] := rfl

theorem transform_2_eq : cc0_transform_2 k0_off1_inb numel1_S1 pf i
    = ![(BitVec.ofNat 32 (i 0).val).toNat, (tile (BitVec.ofNat 32 (i 1).val) (word pf i)).toNat, 0] := rfl

theorem transform_3_eq : cc0_transform_3 k0_off1_inb numel1_S1 pf i
    = ![(group (BitVec.ofNat 32 (i 0).val)).toNat, (tile (BitVec.ofNat 32 (i 1).val) (word pf i)).toNat] := rfl

theorem transform_4_eq : cc0_transform_4 k0_off1_inb numel1_S1 pf i
    = ![(group (BitVec.ofNat 32 (i 0).val)).toNat, (tile (BitVec.ofNat 32 (i 1).val) (word pf i)).toNat] := rfl

/-- A block of the codes that lies on the grid lies inside its array, in whole words. -/
theorem ok_codes : ∀ (a : Fin 24) (b : Fin 8),
    ∃ h : (∀ x, ((![a.val, b.val, 0] : Fin 3 → Nat) x + 1) * S1x256x1536.size x ≤ S24x2048x1536.size x),
      (Rect.block (s := S24x2048x1536) S1x256x1536.size ![a.val, b.val, 0] h).WholeWords 4 := by decide +kernel

theorem inb_scales : ∀ (a : Fin 3) (b : Fin 8),
    (∀ x, ((![0, a.val, b.val] : Fin 3 → Nat) x + 1) * S12x8x256.size x ≤ S12x24x2048.size x) := by decide +kernel

theorem inb_rows : ∀ (a : Fin 3) (b : Fin 8),
    (∀ x, ((![a.val, b.val] : Fin 2 → Nat) x + 1) * S8x256.size x ≤ S24x2048.size x) := by decide +kernel

/-- The index maps' block numbers lie on the grid. -/
theorem batch_lt : (BitVec.ofNat 32 (i 0).val).toNat < 24 := by
  have h : (i 0).val < 24 := (i 0).isLt
  rw [BitVec.toNat_ofNat]; omega

theorem group_lt : (group (BitVec.ofNat 32 (i 0).val)).toNat < 3 := by
  have h : (i 0).val < 24 := (i 0).isLt
  rw [group_eq ⟨(i 0).val, h⟩]; change (i 0).val / 8 < 3; omega

theorem tile_lt : (tile (BitVec.ofNat 32 (i 1).val) (word pf i)).toNat < 8 :=
  Nat.lt_of_le_of_lt (tile_le ⟨(i 1).val, (i 1).isLt⟩ _) (i 1).isLt

/-- Whatever the lengths are, every block picked lies inside its array. -/
theorem ok_all : ok0 pf := by
  refine ⟨fun i => ?_, fun i => ?_, fun i => ?_, fun i => ?_, fun i => ?_⟩
  · obtain ⟨h, w⟩ := ok_codes ⟨_, batch_lt i⟩ ⟨_, tile_lt pf i⟩
    exact ⟨h, .inr w⟩
  · exact ⟨inb_scales ⟨_, group_lt i⟩ ⟨_, tile_lt pf i⟩, .inl rfl⟩
  · obtain ⟨h, w⟩ := ok_codes ⟨_, batch_lt i⟩ ⟨_, tile_lt pf i⟩
    exact ⟨h, .inr w⟩
  · exact ⟨inb_rows ⟨_, group_lt i⟩ ⟨_, tile_lt pf i⟩, .inl rfl⟩
  · exact ⟨inb_rows ⟨_, group_lt i⟩ ⟨_, tile_lt pf i⟩, .inl rfl⟩

end Cert.KernelIdeal.Tile

end
-- ==== Proof.Body.lean ====
module

public import proofs.«01_k».proof.Proof.Gen.KernelIdeal
public import proofs.«01_k».proof.KernelIdeal
public import Idealize.ShloMosaic.Lib.Tactic

/-!
# One tile of the kernel, written with its loops

The printed body is the kernel with its two static loops unrolled: eight chunks of 32 rows, and in each
chunk twice the twelve lane blocks of 128 columns. This module writes the same operations with the loops
as folds over `chunks` and `blocks`, and `body_eq` says the printed body is that program.
-/

@[expose] public section

noncomputable section

namespace Cert.KernelIdeal.Tile

open Idealize.ShloMosaic Idealize.SL.Sem
open Cert.KernelIdeal Cert.KernelIdeal.Facts₀ Cert.KernelIdeal.Facts

variable {F : FTy → Type} [FloatOps F] [Named F]

/-! ## The loops' ranges and the side conditions at a symbolic index -/

/-- The eight chunks of 32 rows. -/
def chunks : List (Fin 8) := [0, 1, 2, 3, 4, 5, 6, 7]

/-- The twelve lane blocks of 128 columns. -/
def blocks : List (Fin 12) := [0, 1, 2, 3, 4, 5, 6, 7, 8, 9, 10, 11]

theorem inb_tile (r : Fin 8) (k : Fin 12) :
    ∀ a, (![0, 32 * r.val, 128 * k.val] : Fin 3 → Nat) a + S1x32x128.size a ≤ S1x256x1536.size a := by
  revert r k; decide

theorem inb_acc (k : Fin 12) :
    ∀ a, (![0, 128 * k.val] : Fin 2 → Nat) a + S8x128.size a ≤ S8x1536.size a := by
  revert k; decide

theorem slices_chunk (r : Fin 8) : S256x16.Slices ![32 * r.val, 0] S32x16 := by
  revert r; decide

theorem slices_col (k : Fin 16) : S32x16.Slices ![0, k.val] S32x1 := by
  revert k; decide

theorem slices_lane (k : Fin 12) : S1x1536.Slices ![0, 128 * k.val] S1x128 := by
  revert k; decide

theorem packed_tile (r : Fin 8) (k : Fin 12) :
    (Rect.unit (s := S1x256x1536) ![0, 32 * r.val, 128 * k.val] S1x32x128.size
      (inb_tile r k)).PackedRows (EltTy.packing .bf16) := by
  revert r k; decide

/-! ## The values the body computes -/

/-- A row of 128 lanes of a whole row of columns, over the 32 rows of a chunk. -/
def lane (g : FVec F S1x1536 .f32) (k : Fin 12) : FVec F S32x128 .f32 :=
  broadcastTo S32x128 (extractStridedSlice S1x128 ![0, 128 * k.val] g (slices_lane k))
    broadcasts_S1x128_S32x128

/-- A column over the 128 lanes of a block. -/
def wide (c : FVec F S32x1 .f32) : FVec F S32x128 .f32 :=
  broadcastTo S32x128 c broadcasts_S32x1_S32x128

/-- One column of a chunk's sixteen. -/
def col (c : FVec F S32x16 .f32) (k : Fin 16) : FVec F S32x1 .f32 :=
  extractStridedSlice S32x1 ![0, k.val] c (slices_col k)

/-- `gamma`, kept away from zero. -/
def clampG (g : FVec F S1x1536 .f32) : FVec F S1x1536 .f32 :=
  select (cmpf .oge g (broadcast S1x1536 (Scalar.ofBits .f32 0x00000000#32)))
    (maximumf g (broadcast S1x1536 (Scalar.ofBits .f32 0x3C23D70A#32)))
    (minimumf g (broadcast S1x1536 (Scalar.ofBits .f32 0xBC23D70A#32)))

/-- The reciprocal of the clamped `gamma`. -/
def invG (g : FVec F S1x1536 .f32) : FVec F S1x1536 .f32 :=
  divf (broadcast S1x1536 (Scalar.ofBits .f32 0x3F800000#32)) (clampG g)

/-- The tile's scales as columns: twelve of `y`, then `dy`'s, then the reciprocal deviations, two unused. -/
def colsOf (s0 s1 s2 s3 s4 s5 s6 s7 s8 s9 s10 s11 : Vec F S1x1x256 .f32)
    (t rs : Vec F S1x256 .f32) : FVec F S256x16 .f32 :=
  transpose S256x16 [1, 0]
    (concatenate S16x256 0
      [⟨S1x256, shapeCast S1x256 s0 shapeCasts_S1x1x256_S1x256⟩,
       ⟨S1x256, shapeCast S1x256 s1 shapeCasts_S1x1x256_S1x256⟩,
       ⟨S1x256, shapeCast S1x256 s2 shapeCasts_S1x1x256_S1x256⟩,
       ⟨S1x256, shapeCast S1x256 s3 shapeCasts_S1x1x256_S1x256⟩,
       ⟨S1x256, shapeCast S1x256 s4 shapeCasts_S1x1x256_S1x256⟩,
       ⟨S1x256, shapeCast S1x256 s5 shapeCasts_S1x1x256_S1x256⟩,
       ⟨S1x256, shapeCast S1x256 s6 shapeCasts_S1x1x256_S1x256⟩,
       ⟨S1x256, shapeCast S1x256 s7 shapeCasts_S1x1x256_S1x256⟩,
       ⟨S1x256, shapeCast S1x256 s8 shapeCasts_S1x1x256_S1x256⟩,
       ⟨S1x256, shapeCast S1x256 s9 shapeCasts_S1x1x256_S1x256⟩,
       ⟨S1x256, shapeCast S1x256 s10 shapeCasts_S1x1x256_S1x256⟩,
       ⟨S1x256, shapeCast S1x256 s11 shapeCasts_S1x1x256_S1x256⟩,
       ⟨S1x256, t⟩, ⟨S1x256, rs⟩,
       ⟨S2x256, broadcast S2x256 (Scalar.ofBits .f32 0x00000000#32)⟩]
      concatenates_S1x256_S1x256_S1x256_S1x256_S1x256_S1x256_S1x256_S1x256_S1x256_S1x256_S1x256_S1x256_S1x256_S1x256_S2x256_S16x256_d0)
    transposes_S16x256_p1_0_S256x16

/-- A chunk's 32 rows of the scale columns. -/
def chunkCols (cols : FVec F S256x16 .f32) (r : Fin 8) : FVec F S32x16 .f32 :=
  extractStridedSlice S32x16 ![32 * r.val, 0] cols (slices_chunk r)

/-- Which of a chunk's rows lie below the length `len`; the tile starts at row `row0`. -/
def rowValid (row0 len : BitVec 32) (r : Fin 8) : IVec S32x1 1 :=
  cmpi .slt (addi (iota .tc S32x1 32 [0] iota_S32x1_d0_w32)
    (broadcast S32x1 (Scalar.addi row0 (BitVec.ofNat 32 (32 * r.val))))) (broadcast S32x1 len)

/-- The rows below the length, the others zero. -/
def maskRows (v : IVec S32x1 1) (x : FVec F S32x128 .f32) : FVec F S32x128 .f32 :=
  select (broadcastTo S32x128 (shapeCast S32x1 v shapeCasts_S32x1_S32x1) broadcasts_S32x1_S32x128) x
    (broadcast S32x128 (Scalar.ofBits .f32 0x00000000#32))

/-- A block of `dy`: its codes times the row's scale. -/
def dyOf (c : FVec F S32x16 .f32) (d : Vec F S1x32x128 .fp8e5m2) : FVec F S32x128 .f32 :=
  mulf (extf .f32 (shapeCast S32x128 d shapeCasts_S1x32x128_S32x128 : FVec F S32x128 .fp8e5m2) bitsLt_fp8e5m2_f32)
    (wide (col c 12))

/-- A block of `y`: its codes times the row's scale of this lane block. -/
def yOf (c : FVec F S32x16 .f32) (k : Fin 12) (y : Vec F S1x32x128 .fp8e4m3) : FVec F S32x128 .f32 :=
  mulf (extf .f32 (shapeCast S32x128 y shapeCasts_S1x32x128_S32x128 : FVec F S32x128 .fp8e4m3) bitsLt_fp8e4m3_f32)
    (wide (col c (k.castLE (by decide))))

/-- The normalised block: `(y - beta) / clamp gamma`. -/
def xhOf (inv be : FVec F S1x1536 .f32) (k : Fin 12) (y : FVec F S32x128 .f32) : FVec F S32x128 .f32 :=
  mulf (subf y (lane be k)) (lane inv k)

/-- `dy * gamma` on a block. -/
def gOf (ga : FVec F S1x1536 .f32) (k : Fin 12) (dy : FVec F S32x128 .f32) : FVec F S32x128 .f32 :=
  mulf dy (lane ga k)

/-- The column sums of a block, by row residue mod 8. -/
def fold8 (x : FVec F S32x128 .f32) : FVec F S8x128 .f32 :=
  multiReduction .add [0] S8x128 (shapeCast S4x8x128 x shapeCasts_S32x128_S4x8x128 : FVec F S4x8x128 .f32)
    0x00000000#32 reduces_S4x8x128_S8x128 (.inl rfl) rfl

/-- The running sums by lane at a chunk's start. -/
def zeroSums : FVec F S32x128 .f32 × FVec F S32x128 .f32 :=
  (broadcast S32x128 (Scalar.ofBits .f32 0x00000000#32), broadcast S32x128 (Scalar.ofBits .f32 0x00000000#32))

/-- The mean over the columns, from the sums by lane. -/
def meanOf (cg : FVec F S32x128 .f32) : FVec F S32x1 .f32 :=
  mulf (shapeCast S32x1 (multiReduction .add [1] S32 cg 0x00000000#32 reduces_S32x128_S32 (.inl rfl) rfl
      : FVec F S32 .f32) shapeCasts_S32_S32x1)
    (broadcast S32x1 (Named.named κ "inv_d" 0x3A2AAAAB#32))

/-- A block of `dx` before its rounding. -/
def dxOf (c : FVec F S32x16 .f32) (v : IVec S32x1 1) (m mx : FVec F S32x1 .f32)
    (g xh : FVec F S32x128 .f32) : FVec F S32x128 .bf16 :=
  truncf .bf16 (maskRows v (mulf (wide (col c 13)) (subf (subf g (wide m)) (mulf xh (wide mx))))) bitsLt_bf16_f32

/-- A zero accumulator. -/
def zeroA : FVec F S8x1536 .f32 :=
  shapeCast S8x1536 (broadcast S8x1536 (Scalar.ofBits .f32 0x00000000#32) : FVec F S8x1536 .f32) shapeCasts_S8x1536_S8x1536

/-- An accumulator's column sums. -/
def sumA (v : Vec F S8x1536 .f32) : FVec F S1x1536 .f32 :=
  shapeCast S1x1536 (multiReduction .add [0] S1536 v 0x00000000#32 reduces_S8x1536_S1536 (.inl rfl) rfl : FVec F S1536 .f32)
    shapeCasts_S1536_S1x1536

/-- What a tile's rows are computed from: `gamma`, `beta`, the reciprocal, the scale columns, the tile's
    first row and the length. -/
structure Ctx (F : FTy → Type) where
  ga : FVec F S1x1536 .f32
  be : FVec F S1x1536 .f32
  inv : FVec F S1x1536 .f32
  cols : FVec F S256x16 .f32
  row0 : BitVec 32
  len : BitVec 32

/-- A block of `dy` with the rows from the length on zero. -/
def dyM (x : Ctx F) (r : Fin 8) (d : Vec F S1x32x128 .fp8e5m2) : FVec F S32x128 .f32 :=
  maskRows (rowValid x.row0 x.len r) (dyOf (chunkCols x.cols r) d)

/-- A normalised block, from `y` with the rows from the length on zero. -/
def xhM (x : Ctx F) (r : Fin 8) (k : Fin 12) (y : Vec F S1x32x128 .fp8e4m3) : FVec F S32x128 .f32 :=
  xhOf x.inv x.be k (maskRows (rowValid x.row0 x.len r) (yOf (chunkCols x.cols r) k y))

/-- What a block adds to the accumulator of `dy`. -/
def addDy (x : Ctx F) (r : Fin 8) (d : Vec F S1x32x128 .fp8e5m2) (a : Vec F S8x128 .f32) : FVec F S8x128 .f32 :=
  shapeCast S8x128 (addf a (fold8 (dyM x r d)) : FVec F S8x128 .f32) shapeCasts_S8x128_S8x128

/-- What a block adds to the accumulator of `dy * xhat`. -/
def addDyx (x : Ctx F) (r : Fin 8) (k : Fin 12) (d : Vec F S1x32x128 .fp8e5m2) (y : Vec F S1x32x128 .fp8e4m3)
    (b : Vec F S8x128 .f32) : FVec F S8x128 .f32 :=
  shapeCast S8x128 (addf b (fold8 (mulf (dyM x r d) (xhM x r k y))) : FVec F S8x128 .f32) shapeCasts_S8x128_S8x128

/-- The running sums by lane of `g` and of `g * xhat`, a block further. -/
def addSums (x : Ctx F) (r : Fin 8) (k : Fin 12) (d : Vec F S1x32x128 .fp8e5m2) (y : Vec F S1x32x128 .fp8e4m3)
    (s : FVec F S32x128 .f32 × FVec F S32x128 .f32) : FVec F S32x128 .f32 × FVec F S32x128 .f32 :=
  (addf s.1 (gOf x.ga k (dyM x r d)), addf s.2 (mulf (gOf x.ga k (dyM x r d)) (xhM x r k y)))

/-- A block of `dx`, rounded, from the chunk's two means. -/
def dxBlk (x : Ctx F) (r : Fin 8) (m mx : FVec F S32x1 .f32) (k : Fin 12) (d : Vec F S1x32x128 .fp8e5m2)
    (y : Vec F S1x32x128 .fp8e4m3) : FVec F S1x32x128 .bf16 :=
  shapeCast S1x32x128 (dxOf (chunkCols x.cols r) (rowValid x.row0 x.len r) m mx
    (gOf x.ga k (dyOf (chunkCols x.cols r) d)) (xhOf x.inv x.be k (yOf (chunkCols x.cols r) k y))
      : FVec F S32x128 .bf16) shapeCasts_S32x128_S1x32x128

/-- A chunk's rectangle of a tile at a lane block. -/
abbrev rectT (r : Fin 8) (k : Fin 12) : Rect S1x256x1536 :=
  Rect.unit (s := S1x256x1536) ![0, 32 * r.val, 128 * k.val] S1x32x128.size (inb_tile r k)

/-- An accumulator's rectangle at a lane block. -/
abbrev rectA (k : Fin 12) : Rect S8x1536 :=
  Rect.unit (s := S8x1536) ![0, 128 * k.val] S8x128.size (inb_acc k)

/-! ## The program -/

variable (arg3 : Memref sig .tc .vmem S1x256x1536 .fp8e4m3)
  (arg5 : Memref sig .tc .vmem S1x256x1536 .fp8e5m2)
  (arg10 : Memref sig .tc .vmem S1x256x1536 .bf16) (harg10 : arg10.IsWhole)
  (arg13 : Memref sig .tc .vmem S8x1536 .f32) (arg14 : Memref sig .tc .vmem S8x1536 .f32)

/-- First pass, one lane block: add the block's `g` and `g * xhat` to the running sums by lane, and its
    `dy` and `dy * xhat` to the two accumulators. -/
def pass1 (x : Ctx F) (r : Fin 8) (s : FVec F S32x128 .f32 × FVec F S32x128 .f32) (k : Fin 12) :
    Prog (TpuEff nD τ sig (Elt F) Λ₀ .tc) (FVec F S32x128 .f32 × FVec F S32x128 .f32) := do
  let d : Vec F S1x32x128 .fp8e5m2 ← Prog.lift (.load arg5 (rectT r k).toLoadRect (View.loadsAt_vmem h_S1x32x128))
  let y : Vec F S1x32x128 .fp8e4m3 ← Prog.lift (.load arg3 (rectT r k).toLoadRect (View.loadsAt_vmem h_S1x32x128))
  let a : Vec F S8x128 .f32 ← Prog.lift (.load arg13 (rectA k).toLoadRect (View.loadsAt_vmem h_S8x128))
  let _ : Vec F S8x128 .f32 ← Prog.lift (.load arg13 (rectA k).toLoadRect (View.loadsAt_vmem h_S8x128))
  Prog.lift (.store arg13 (rectA k) (addDy x r d a) Finset.univ (View.stores_vmem_bits_univ h_S8x128 rfl) (.inl rfl))
  let b : Vec F S8x128 .f32 ← Prog.lift (.load arg14 (rectA k).toLoadRect (View.loadsAt_vmem h_S8x128))
  let _ : Vec F S8x128 .f32 ← Prog.lift (.load arg14 (rectA k).toLoadRect (View.loadsAt_vmem h_S8x128))
  Prog.lift (.store arg14 (rectA k) (addDyx x r k d y b) Finset.univ (View.stores_vmem_bits_univ h_S8x128 rfl) (.inl rfl))
  pure (addSums x r k d y s)

/-- Second pass, one lane block: compute the block of `dx` from the chunk's two means and write it. -/
def pass2 (x : Ctx F) (r : Fin 8) (m mx : FVec F S32x1 .f32) (k : Fin 12) :
    Prog (TpuEff nD τ sig (Elt F) Λ₀ .tc) PUnit := do
  let d : Vec F S1x32x128 .fp8e5m2 ← Prog.lift (.load arg5 (rectT r k).toLoadRect (View.loadsAt_vmem h_S1x32x128))
  let y : Vec F S1x32x128 .fp8e4m3 ← Prog.lift (.load arg3 (rectT r k).toLoadRect (View.loadsAt_vmem h_S1x32x128))
  let _ : Vec F S1x32x128 .bf16 ← Prog.lift (.load arg10 (rectT r k).toLoadRect (View.loadsAt_vmem h_S1x32x128))
  Prog.lift (.store arg10 (rectT r k) (dxBlk x r m mx k d y)
    Finset.univ (View.stores_vmem h_S1x32x128 (harg10.storeExact_slice rfl _ (packed_tile r k)) (fun _ => rfl)) (.inl rfl))
  pure ⟨⟩

/-- One chunk of 32 rows: the two passes over the lane blocks. -/
def chunk (x : Ctx F) (_ : PUnit) (r : Fin 8) : Prog (TpuEff nD τ sig (Elt F) Λ₀ .tc) PUnit := do
  let s ← blocks.foldlM (pass1 arg3 arg5 arg13 arg14 x r)
    zeroSums
  blocks.foldlM (fun _ k => pass2 arg3 arg5 arg10 harg10 x r (meanOf s.1) (meanOf s.2) k) ⟨⟩

/-- One row of the scale table. -/
def loadScale (arg4 : Memref sig .tc .vmem S12x8x256 .f32) (off : Fin 3 → Nat)
    (h : ∀ a, off a + S1x1x256.size a ≤ S12x8x256.size a) :
    Prog (TpuEff nD τ sig (Elt F) Λ₀ .tc) (Vec F S1x1x256 .f32) :=
  Prog.lift (.load arg4 (Rect.unit (s := S12x8x256) off S1x1x256.size h).toLoadRect (View.loadsAt_vmem h_S1x1x256))

variable (i : grid0.Coords) (arg2 : Memref sig .tc .smem S24 .i32)
  (arg4 : Memref sig .tc .vmem S12x8x256 .f32)
  (arg6 : Memref sig .tc .vmem S8x256 .f32) (arg7 : Memref sig .tc .vmem S8x256 .f32)
  (arg8 : Memref sig .tc .vmem S1x1536 .f32) (arg9 : Memref sig .tc .vmem S1x1536 .f32)
  (arg11 : Memref sig .tc .vmem S1x1536 .f32) (arg12 : Memref sig .tc .vmem S1x1536 .f32)

/-- The loads in front of the chunks: `gamma`, `beta`, and the tile's row of each scale table. -/
def ctx (row0 len : BitVec 32) : Prog (TpuEff nD τ sig (Elt F) Λ₀ .tc) (Ctx F) := do
  let ga : Vec F S1x1536 .f32 ← Prog.lift (.load arg8 (Rect.unit (s := S1x1536) ![0, 0] S1x1536.size inb_S1x1536_S1x1536_0_0).toLoadRect (View.loadsAt_vmem h_S1x1536))
  let be : Vec F S1x1536 .f32 ← Prog.lift (.load arg9 (Rect.unit (s := S1x1536) ![0, 0] S1x1536.size inb_S1x1536_S1x1536_0_0).toLoadRect (View.loadsAt_vmem h_S1x1536))
  let s0 ← loadScale arg4 (k0_off2 i) (k0_off2_inb i)
  let s1 ← loadScale arg4 (k0_off3 i) (k0_off3_inb i)
  let s2 ← loadScale arg4 (k0_off4 i) (k0_off4_inb i)
  let s3 ← loadScale arg4 (k0_off5 i) (k0_off5_inb i)
  let s4 ← loadScale arg4 (k0_off6 i) (k0_off6_inb i)
  let s5 ← loadScale arg4 (k0_off7 i) (k0_off7_inb i)
  let s6 ← loadScale arg4 (k0_off8 i) (k0_off8_inb i)
  let s7 ← loadScale arg4 (k0_off9 i) (k0_off9_inb i)
  let s8 ← loadScale arg4 (k0_off10 i) (k0_off10_inb i)
  let s9 ← loadScale arg4 (k0_off11 i) (k0_off11_inb i)
  let s10 ← loadScale arg4 (k0_off12 i) (k0_off12_inb i)
  let s11 ← loadScale arg4 (k0_off13 i) (k0_off13_inb i)
  let t : Vec F S1x256 .f32 ← Prog.lift (.load arg6 (Rect.unit (s := S8x256) (k0_off14 i) S1x256.size (k0_off14_inb i)).toLoadRect (View.loadsAt_vmem h_S1x256))
  let rs : Vec F S1x256 .f32 ← Prog.lift (.load arg7 (Rect.unit (s := S8x256) (k0_off14 i) S1x256.size (k0_off14_inb i)).toLoadRect (View.loadsAt_vmem h_S1x256))
  pure { ga := shapeCast S1x1536 ga shapeCasts_S1x1536_S1x1536
         be := shapeCast S1x1536 be shapeCasts_S1x1536_S1x1536
         inv := invG (shapeCast S1x1536 ga shapeCasts_S1x1536_S1x1536)
         cols := colsOf s0 s1 s2 s3 s4 s5 s6 s7 s8 s9 s10 s11 t rs
         row0 := row0, len := len }

/-- The rows of a tile that has some row below the length. -/
def work (row0 len : BitVec 32) : Prog (TpuEff nD τ sig (Elt F) Λ₀ .tc) PUnit := do
  let x ← ctx i arg4 arg6 arg7 arg8 arg9 row0 len
  chunks.foldlM (chunk arg3 arg5 arg10 harg10 arg13 arg14 x) ⟨⟩

/-- A tile with no row below the length: `dx` is zero. -/
def zeroDx : Prog (TpuEff nD τ sig (Elt F) Λ₀ .tc) PUnit := do
  let _ : Vec F S1x256x1536 .bf16 ← Prog.lift (.load arg10 (Rect.unit (s := S1x256x1536) ![0, 0, 0] S1x256x1536.size inb_S1x256x1536_S1x256x1536_0_0_0).toLoadRect (View.loadsAt_vmem h_S1x256x1536))
  Prog.lift (.store arg10 (Rect.unit (s := S1x256x1536) ![0, 0, 0] S1x256x1536.size inb_S1x256x1536_S1x256x1536_0_0_0) (broadcast S1x256x1536 (Scalar.ofBits .bf16 0x0000#16)) Finset.univ (View.stores_vmem h_S1x256x1536 (harg10.storeExact_slice rfl _ packedbf16_S1x256x1536_S1x256x1536_0_0_0) (fun _ => rfl)) (.inl rfl))
  pure ⟨⟩

/-- Set an accumulator to zero. -/
def zeroAcc (m : Memref sig .tc .vmem S8x1536 .f32) : Prog (TpuEff nD τ sig (Elt F) Λ₀ .tc) PUnit := do
  let _ : Vec F S8x1536 .f32 ← Prog.lift (.load m (Rect.unit (s := S8x1536) ![0, 0] S8x1536.size inb_S8x1536_S8x1536_0_0).toLoadRect (View.loadsAt_vmem h_S8x1536))
  Prog.lift (.store m (Rect.unit (s := S8x1536) ![0, 0] S8x1536.size inb_S8x1536_S8x1536_0_0) zeroA Finset.univ (View.stores_vmem_bits_univ h_S8x1536 rfl) (.inl rfl))
  pure ⟨⟩

/-- Write an accumulator's column sums to a result. -/
def flush (m : Memref sig .tc .vmem S8x1536 .f32) (o : Memref sig .tc .vmem S1x1536 .f32) :
    Prog (TpuEff nD τ sig (Elt F) Λ₀ .tc) PUnit := do
  let v : Vec F S8x1536 .f32 ← Prog.lift (.load m (Rect.unit (s := S8x1536) ![0, 0] S8x1536.size inb_S8x1536_S8x1536_0_0).toLoadRect (View.loadsAt_vmem h_S8x1536))
  let _ : Vec F S1x1536 .f32 ← Prog.lift (.load o (Rect.unit (s := S1x1536) ![0, 0] S1x1536.size inb_S1x1536_S1x1536_0_0).toLoadRect (View.loadsAt_vmem h_S1x1536))
  Prog.lift (.store o (Rect.unit (s := S1x1536) ![0, 0] S1x1536.size inb_S1x1536_S1x1536_0_0) (sumA v) Finset.univ (View.stores_vmem_bits_univ h_S1x1536 rfl) (.inl rfl))
  pure ⟨⟩

/-- The condition of the first tile. -/
def cond1 (i : grid0.Coords) : BitVec 1 :=
  Scalar.cmpi .ne (Scalar.extui (Scalar.andi (Scalar.cmpi .eq (BitVec.ofNat 32 (i 0).val) (0#32))
    (Scalar.cmpi .eq (BitVec.ofNat 32 (i 1).val) (0#32))) : BitVec 32) (0#32)

/-- The whole body with its loops. -/
def body : Prog (TpuEff nD τ sig (Elt F) Λ₀ .tc) PUnit := do
  let len : Elt F .i32 ← smemLoad arg2 (Rect.unit (s := S24) (k0_off1 i) S1.size (k0_off1_inb i)) numel1_S1 rfl
  if cond1 i = 1#1 then do
    zeroAcc arg13
    zeroAcc arg14
  else pure ⟨⟩
  if k0_cond2 i len = 1#1 then zeroDx arg10 harg10 else pure ⟨⟩
  if k0_cond3 i len = 1#1 then
    work arg3 arg5 arg10 harg10 arg13 arg14 i arg4 arg6 arg7 arg8 arg9 (Scalar.muli (BitVec.ofNat 32 (i 1).val) 256#32) len
  else pure ⟨⟩
  if k0_cond4 i = 1#1 then do
    flush arg14 arg11
    flush arg13 arg12
  else pure ⟨⟩

/-- The printed body is the body with its loops. -/
theorem body_eq (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (harg11 : arg11.IsWhole) (harg12 : arg12.IsWhole) (harg13 : arg13.IsWhole) (harg14 : arg14.IsWhole) :
    cc0_ln_bwd (F := F) i arg2 harg2 arg3 harg3 arg4 harg4 arg5 harg5 arg6 harg6 arg7 harg7 arg8 harg8 arg9 harg9
      arg10 harg10 arg11 harg11 arg12 harg12 arg13 harg13 arg14 harg14
    = body arg3 arg5 arg10 harg10 arg13 arg14 i arg2 arg4 arg6 arg7 arg8 arg9 arg11 arg12 := by
  sl_kernel_rfl

end Cert.KernelIdeal.Tile
-- ==== Proof.OwnsRules.lean ====
module

public import Idealize.ShloMosaic.Lib.Memref
public import Idealize.ShloMosaic.Lib.Tactic

/-!
# Loads and stores of a memref a core owns, and folds of a program

`wp_load_owns`, `wp_store_owns`: a load through a rectangle of a memref owned at `X` reads `X` there, a store
leaves `X` with the rectangle replaced. `wp_foldlM`: a step that takes one state to the next carries a whole
fold along the fold of the states.
-/

@[expose] public section

namespace Idealize.ShloMosaic.OwnsRules

open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

local notation "𝕄" => MT nD τ sig Ix Val Name U Lvl

/-- A load through a rectangle of an owned memref, at the head of a program. -/
theorem wp_load_owns {α : Type} {Q : α → sProp 𝕄} {cs : CoreSpace} {m : Memref sig c.2.kind cs s e} {r : Rect s}
    {hl : m.view.LoadsAt r.toLoadRect} {q : PosShare TreeShare} {X : s.Idx → Val e}
    {k : (r.shape.Idx → Val e) → Prog (TpuEff nD τ sig Val Λ c.2) α} :
    owns c m q X
      ⊢ iprop((owns c m q X -∗ wp frame (wpE defs 𝒱 c bd) E (k fun j => X (r.emb j)) Q)
        -∗ wp frame (wpE defs 𝒱 c bd) E (Prog.lift (.load m r.toLoadRect hl) >>= k) Q) := by
  unfold owns
  iintro ⟨%f, %hf, H⟩ Hk
  have hk := wp_load_rect (defs := defs) 𝒱 c bd (Γ := .empty) E (m := m) (r := r) (hl := hl) (q := q) (f := f)
    (k := k) (Q := Q) (S := m.view.set) (View.set_slice_subset _ _)
  iapply hk $$ H
  iintro H
  have he : (m.access r).read Val f = fun j => X (r.emb j) := by subst hf; rfl
  rw [he]
  iapply Hk
  iexists f
  isplitr
  · ipureintro; exact hf
  · iexact H

/-- A store of a rectangle of an owned memref, at the head of a program. -/
theorem wp_store_owns {α : Type} {Q : α → sProp 𝕄} {cs : CoreSpace} {m : Memref sig c.2.kind cs s e} {r : Rect s}
    {w : r.shape.Idx → Val e} {hx : (m.access r).Stores Finset.univ}
    {hm : Finset.univ = Finset.univ ∨ ∀ a, r.stride a = 1} {X : s.Idx → Val e}
    {k : PUnit → Prog (TpuEff nD τ sig Val Λ c.2) α} :
    owns c m fullShare X
      ⊢ iprop((owns c m fullShare (r.overlay X w) -∗ wp frame (wpE defs 𝒱 c bd) E (k ⟨⟩) Q)
        -∗ wp frame (wpE defs 𝒱 c bd) E (Prog.lift (.store m r w Finset.univ hx hm) >>= k) Q) := by
  unfold owns
  iintro ⟨%f, %hf, H⟩ Hk
  have hk := wp_store (defs := defs) 𝒱 c bd (Γ := .empty) E (m := m) (r := r) (w := w) (Mk := Finset.univ) (hx := hx) (hm := hm) (f := f)
    (k := k) (Q := Q) (S := m.view.set) (by rw [View.setOn_univ]; exact View.set_slice_subset _ _)
  iapply hk $$ H
  iintro H
  iapply Hk
  iexists ((m.access r).write Val f w Finset.univ)
  isplitr
  · ipureintro
    funext j
    by_cases hj : j ∈ r.set
    · obtain ⟨i, rfl⟩ := r.exists_idx_of_mem hj
      exact (View.read_slice_write_emb r f w (Finset.mem_univ _)).trans (Rect.overlay_emb r X w i).symm
    · rw [Rect.overlay_of_not_mem r X w hj, ← hf]
      exact View.read_slice_write_of_not_mem r f w Finset.univ (by rw [Rect.map_emb_univ]; exact hj)
  · iexact H

/-- A load of one word of an owned table, at the head of a program. -/
theorem wp_word_owns {α : Type} {Q : α → sProp 𝕄} {m : Memref sig c.2.kind .smem s e} {r : Rect s}
    {h1 : r.shape.numel = 1} {hp : e.packing = 1} {q : PosShare TreeShare} {X : s.Idx → Val e}
    {k : Val e → Prog (TpuEff nD τ sig Val Λ c.2) α} :
    owns c m q X
      ⊢ iprop((owns c m q X -∗ wp frame (wpE defs 𝒱 c bd) E (k (X (r.point h1))) Q)
        -∗ wp frame (wpE defs 𝒱 c bd) E (smemLoad m r h1 hp >>= k) Q) := by
  unfold owns
  iintro ⟨%f, %hf, H⟩ Hk
  have hk := wp_smemLoadElt (defs := defs) 𝒱 c bd (Γ := .empty) E (m := m) (r := r) (hw := View.loads_smem_one hp h1)
    (x := Shape.Idx.first (h1.symm ▸ Nat.one_pos)) (q := q) (f := f)
    (k := k) (Q := Q) (S := m.view.set) (View.set_slice_subset _ _)
  iapply hk $$ H
  iintro H
  have he : (m.access r).read Val f (Shape.Idx.first (h1.symm ▸ Nat.one_pos)) = X (r.point h1) := by subst hf; rfl
  rw [he]
  iapply Hk
  iexists f
  isplitr
  · ipureintro; exact hf
  · iexact H

/-- A program that has ended. -/
theorem wp_done {α : Type} {Q : α → sProp 𝕄} {a : α} :
    Q a ⊢ wp frame (wpE defs 𝒱 c bd) E (pure a : Prog (TpuEff nD τ sig Val Λ c.2) α) Q := by
  show _ ⊢ wp frame (wpE defs 𝒱 c bd) E (Prog.ret a) Q
  rw [wp_ret]
  iintro H; imodintro; iexact H

/-- A program ended by an effect is that effect and then the end. -/
theorem lift_eq_bind {β : Type} (o : TpuEff nD τ sig Val Λ c.2 β) :
    (Prog.lift o : Prog (TpuEff nD τ sig Val Λ c.2) β) = Prog.lift o >>= pure := rfl

/-- A fold of steps, each taking the state `(h, s)` to `g (h, s) a`. -/
theorem wp_foldlM {H : Type} {σ α : Type}
    (P : H → sProp (𝕄)) (f : σ → α → Prog (TpuEff nD τ sig Val Λ c.2) σ) (g : H × σ → α → H × σ)
    (hstep : ∀ h s a, P h ⊢ wp frame (wpE defs 𝒱 c bd) E (f s a) (fun s' => iprop(⌜s' = (g (h, s) a).2⌝ ∗ P (g (h, s) a).1)))
    (l : List α) (h : H) (s : σ) :
    P h ⊢ wp frame (wpE defs 𝒱 c bd) E (l.foldlM f s)
      (fun s' => iprop(⌜s' = (l.foldl g (h, s)).2⌝ ∗ P (l.foldl g (h, s)).1)) := by
  induction l generalizing h s with
  | nil =>
    rw [List.foldlM_nil, List.foldl_nil]
    show _ ⊢ wp frame (wpE defs 𝒱 c bd) E (Prog.ret s) _
    rw [wp_ret]
    iintro H
    imodintro
    isplitr
    · ipureintro; rfl
    · iexact H
  | cons a l ih =>
    rw [List.foldlM_cons, List.foldl_cons, wp_bind]
    refine (hstep h s a).trans (wp_mono _ _ _ fun s' => ?_)
    iintro ⟨%hs, H⟩
    subst hs
    iapply (ih (g (h, s) a).1 (g (h, s) a).2)
    iexact H

end Idealize.ShloMosaic.OwnsRules
-- ==== Proof.TileRun.lean ====
module

public import proofs.«01_k».proof.Proof.Body
public import proofs.«01_k».proof.Proof.OwnsRules

/-!
# What a run of the body leaves

The loops of the body as folds of values: `step1` and `step2` are the two passes at one lane block, `chunkV` a
chunk, `workV` a tile, `bodyV` the whole body. `run_body` says the program leaves exactly those values in
the memrefs it owns.
-/

@[expose] public section

noncomputable section

namespace Cert.KernelIdeal.Tile

open Idealize.ShloMosaic Idealize.SL.Sem
open Cert.KernelIdeal Cert.KernelIdeal.Facts₀ Cert.KernelIdeal.Facts
open Idealize.ShloMosaic.OwnsRules
open Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F] [Named F] {U : Type} [URA U]

/-- What a tile's run changes: the block of `dx` and the two accumulators. -/
structure Acc (F : FTy → Type) where
  dx : Vec F S1x256x1536 .bf16
  aDy : Vec F S8x1536 .f32
  aDyx : Vec F S8x1536 .f32

/-- First pass at lane block `k`: the accumulators and the running sums. -/
def step1 (Y : Vec F S1x256x1536 .fp8e4m3) (D : Vec F S1x256x1536 .fp8e5m2) (x : Ctx F) (r : Fin 8)
    (h : Acc F × (FVec F S32x128 .f32 × FVec F S32x128 .f32)) (k : Fin 12) :
    Acc F × (FVec F S32x128 .f32 × FVec F S32x128 .f32) :=
  (⟨h.1.dx,
    (rectA k).overlay h.1.aDy (addDy x r (fun j => D ((rectT r k).emb j)) (fun j => h.1.aDy ((rectA k).emb j))),
    (rectA k).overlay h.1.aDyx (addDyx x r k (fun j => D ((rectT r k).emb j)) (fun j => Y ((rectT r k).emb j))
      (fun j => h.1.aDyx ((rectA k).emb j)))⟩,
    addSums x r k (fun j => D ((rectT r k).emb j)) (fun j => Y ((rectT r k).emb j)) h.2)

/-- Second pass at lane block `k`: the block of `dx`. -/
def step2 (Y : Vec F S1x256x1536 .fp8e4m3) (D : Vec F S1x256x1536 .fp8e5m2) (x : Ctx F) (r : Fin 8)
    (m mx : FVec F S32x1 .f32) (h : Acc F × PUnit.{1}) (k : Fin 12) : Acc F × PUnit.{1} :=
  (⟨(rectT r k).overlay h.1.dx
      (dxBlk x r m mx k (fun j => D ((rectT r k).emb j)) (fun j => Y ((rectT r k).emb j))), h.1.aDy, h.1.aDyx⟩, ⟨⟩)

/-- One chunk. -/
def chunkV (Y : Vec F S1x256x1536 .fp8e4m3) (D : Vec F S1x256x1536 .fp8e5m2) (x : Ctx F)
    (h : Acc F × PUnit.{1}) (r : Fin 8) : Acc F × PUnit.{1} :=
  blocks.foldl (step2 Y D x r (meanOf (blocks.foldl (step1 Y D x r) (h.1, zeroSums)).2.1)
    (meanOf (blocks.foldl (step1 Y D x r) (h.1, zeroSums)).2.2)) ((blocks.foldl (step1 Y D x r) (h.1, zeroSums)).1, ⟨⟩)

variable {defs : Defs nD τ sig (Elt F) Λ₀} (𝒱 : Variants) (c : Dev nD) (bd : Option 𝒱.V) (E : Set ℕ)

local notation "𝕄" => MT nD τ sig Unit (Elt F) ℕ U ℕ

variable (arg3 : Memref sig .tc .vmem S1x256x1536 .fp8e4m3)
  (arg5 : Memref sig .tc .vmem S1x256x1536 .fp8e5m2)
  (arg10 : Memref sig .tc .vmem S1x256x1536 .bf16) (harg10 : arg10.IsWhole)
  (arg13 : Memref sig .tc .vmem S8x1536 .f32) (arg14 : Memref sig .tc .vmem S8x1536 .f32)

/-- What the core owns while it works on a tile: the two tiles of codes and what the run changes. -/
def held (Y : Vec F S1x256x1536 .fp8e4m3) (D : Vec F S1x256x1536 .fp8e5m2) (h : Acc F) : sProp 𝕄 :=
  iprop(owns (c.tc : Thread nD τ) arg3 fullShare Y ∗ owns (c.tc : Thread nD τ) arg5 fullShare D
    ∗ owns (c.tc : Thread nD τ) arg10 fullShare h.dx ∗ owns (c.tc : Thread nD τ) arg13 fullShare h.aDy
    ∗ owns (c.tc : Thread nD τ) arg14 fullShare h.aDyx)

theorem run_pass1 (Y : Vec F S1x256x1536 .fp8e4m3) (D : Vec F S1x256x1536 .fp8e5m2) (x : Ctx F) (r : Fin 8)
    (h : Acc F) (s : FVec F S32x128 .f32 × FVec F S32x128 .f32) (k : Fin 12) :
    held c arg3 arg5 arg10 arg13 arg14 Y D h
      ⊢ wp frame (wpE defs 𝒱 c.tc bd) E (pass1 arg3 arg5 arg13 arg14 x r s k) (fun s' =>
        (iprop(⌜s' = (step1 Y D x r (h, s) k).2⌝ ∗ held c arg3 arg5 arg10 arg13 arg14 Y D (step1 Y D x r (h, s) k).1) : sProp 𝕄)) := by
  unfold held pass1
  iintro ⟨Hy, Hd, Hx, Ha, Hb⟩
  iapply (wp_load_owns 𝒱 c.tc bd E) $$ Hd; iintro Hd
  iapply (wp_load_owns 𝒱 c.tc bd E) $$ Hy; iintro Hy
  iapply (wp_load_owns 𝒱 c.tc bd E) $$ Ha; iintro Ha
  iapply (wp_load_owns 𝒱 c.tc bd E) $$ Ha; iintro Ha
  iapply (wp_store_owns 𝒱 c.tc bd E) $$ Ha; iintro Ha
  iapply (wp_load_owns 𝒱 c.tc bd E) $$ Hb; iintro Hb
  iapply (wp_load_owns 𝒱 c.tc bd E) $$ Hb; iintro Hb
  iapply (wp_store_owns 𝒱 c.tc bd E) $$ Hb; iintro Hb
  iapply (wp_done 𝒱 c.tc bd E)
  isplitr
  · ipureintro; rfl
  · isplitl [Hy]
    · iexact Hy
    isplitl [Hd]
    · iexact Hd
    isplitl [Hx]
    · iexact Hx
    isplitl [Ha]
    · iexact Ha
    · iexact Hb

theorem run_pass2 (Y : Vec F S1x256x1536 .fp8e4m3) (D : Vec F S1x256x1536 .fp8e5m2) (x : Ctx F) (r : Fin 8)
    (m mx : FVec F S32x1 .f32) (h : Acc F) (s : PUnit.{1}) (k : Fin 12) :
    held c arg3 arg5 arg10 arg13 arg14 Y D h
      ⊢ wp frame (wpE defs 𝒱 c.tc bd) E (pass2 arg3 arg5 arg10 harg10 x r m mx k) (fun s' =>
        (iprop(⌜s' = (step2 Y D x r m mx (h, s) k).2⌝ ∗ held c arg3 arg5 arg10 arg13 arg14 Y D (step2 Y D x r m mx (h, s) k).1) : sProp 𝕄)) := by
  unfold held pass2
  iintro ⟨Hy, Hd, Hx, Ha, Hb⟩
  iapply (wp_load_owns 𝒱 c.tc bd E) $$ Hd; iintro Hd
  iapply (wp_load_owns 𝒱 c.tc bd E) $$ Hy; iintro Hy
  iapply (wp_load_owns 𝒱 c.tc bd E) $$ Hx; iintro Hx
  iapply (wp_store_owns 𝒱 c.tc bd E) $$ Hx; iintro Hx
  iapply (wp_done 𝒱 c.tc bd E)
  isplitr
  · ipureintro; rfl
  · isplitl [Hy]
    · iexact Hy
    isplitl [Hd]
    · iexact Hd
    isplitl [Hx]
    · iexact Hx
    isplitl [Ha]
    · iexact Ha
    · iexact Hb

theorem run_chunk (Y : Vec F S1x256x1536 .fp8e4m3) (D : Vec F S1x256x1536 .fp8e5m2) (x : Ctx F)
    (h : Acc F) (s : PUnit.{1}) (r : Fin 8) :
    held c arg3 arg5 arg10 arg13 arg14 Y D h
      ⊢ wp frame (wpE defs 𝒱 c.tc bd) E (chunk arg3 arg5 arg10 harg10 arg13 arg14 x s r) (fun s' =>
        (iprop(⌜s' = (chunkV Y D x (h, s) r).2⌝ ∗ held c arg3 arg5 arg10 arg13 arg14 Y D (chunkV Y D x (h, s) r).1) : sProp 𝕄)) := by
  unfold chunk
  rw [wp_bind]
  refine (wp_foldlM (defs := defs) 𝒱 c.tc bd E (held c arg3 arg5 arg10 arg13 arg14 Y D) (pass1 arg3 arg5 arg13 arg14 x r) (step1 Y D x r)
    (fun h s k => run_pass1 (defs := defs) 𝒱 c bd E arg3 arg5 arg10 arg13 arg14 Y D x r h s k) blocks h zeroSums).trans ?_
  refine wp_mono _ _ _ fun s' => ?_
  iintro ⟨%hs, H⟩
  subst hs
  iapply (wp_foldlM (defs := defs) 𝒱 c.tc bd E (held c arg3 arg5 arg10 arg13 arg14 Y D) _ (step2 Y D x r _ _)
    (fun h s k => run_pass2 (defs := defs) 𝒱 c bd E arg3 arg5 arg10 harg10 arg13 arg14 Y D x r _ _ h s k) blocks _ ⟨⟩) $$ H

/-- All chunks of a tile. -/
def workV (Y : Vec F S1x256x1536 .fp8e4m3) (D : Vec F S1x256x1536 .fp8e5m2) (x : Ctx F) (h : Acc F) : Acc F :=
  (chunks.foldl (chunkV Y D x) (h, ⟨⟩)).1

theorem run_chunks (Y : Vec F S1x256x1536 .fp8e4m3) (D : Vec F S1x256x1536 .fp8e5m2) (x : Ctx F) (h : Acc F) :
    held c arg3 arg5 arg10 arg13 arg14 Y D h
      ⊢ wp frame (wpE defs 𝒱 c.tc bd) E (chunks.foldlM (chunk arg3 arg5 arg10 harg10 arg13 arg14 x) ⟨⟩) (fun _ =>
        (held c arg3 arg5 arg10 arg13 arg14 Y D (workV Y D x h) : sProp 𝕄)) := by
  refine (wp_foldlM (defs := defs) 𝒱 c.tc bd E (held c arg3 arg5 arg10 arg13 arg14 Y D) _ (chunkV Y D x)
    (fun h s k => run_chunk (defs := defs) 𝒱 c bd E arg3 arg5 arg10 harg10 arg13 arg14 Y D x h s k) chunks h ⟨⟩).trans ?_
  refine wp_mono _ _ _ fun s' => ?_
  iintro ⟨-, H⟩
  iexact H

end Cert.KernelIdeal.Tile
-- ==== Proof.BodyRun.lean ====
module

public import proofs.«01_k».proof.Proof.TileRun

/-!
# What a run of the whole body leaves

`bodyV` is what the body leaves of `dx`, of the two column sums and of the two accumulators, from what the blocks of the
inputs hold; `run_body` says the program leaves exactly that.
-/

@[expose] public section

noncomputable section

namespace Cert.KernelIdeal.Tile

open Idealize.ShloMosaic Idealize.SL.Sem
open Cert.KernelIdeal Cert.KernelIdeal.Facts₀ Cert.KernelIdeal.Facts
open Idealize.ShloMosaic.OwnsRules
open Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F] [Named F] {U : Type} [URA U]

/-- What the blocks of the inputs hold: lengths, codes of `y`, their scales, codes of `dy`, their scales, reciprocal
    deviations, `gamma`, `beta`. -/
structure In (F : FTy → Type) where
  len : Vec F S24 .i32
  y : Vec F S1x256x1536 .fp8e4m3
  sc : Vec F S12x8x256 .f32
  dy : Vec F S1x256x1536 .fp8e5m2
  dsc : Vec F S8x256 .f32
  rs : Vec F S8x256 .f32
  ga : Vec F S1x1536 .f32
  be : Vec F S1x1536 .f32

/-- What the body changes: the block of `dx`, the two column sums, the two accumulators. -/
structure Out (F : FTy → Type) where
  acc : Acc F
  dga : Vec F S1x1536 .f32
  dbe : Vec F S1x1536 .f32

/-- The whole rectangle of a row of columns. -/
abbrev rectG : Rect S1x1536 := Rect.unit (s := S1x1536) ![0, 0] S1x1536.size inb_S1x1536_S1x1536_0_0

/-- The whole rectangle of an accumulator. -/
abbrev rectB : Rect S8x1536 := Rect.unit (s := S8x1536) ![0, 0] S8x1536.size inb_S8x1536_S8x1536_0_0

/-- The whole rectangle of a tile. -/
abbrev rectX : Rect S1x256x1536 :=
  Rect.unit (s := S1x256x1536) ![0, 0, 0] S1x256x1536.size inb_S1x256x1536_S1x256x1536_0_0_0

/-- One row of a scale table. -/
def rowS (sc : Vec F S12x8x256 .f32) (off : Fin 3 → Nat) (h : ∀ a, off a + S1x1x256.size a ≤ S12x8x256.size a) :
    Vec F S1x1x256 .f32 := fun j => sc ((Rect.unit (s := S12x8x256) off S1x1x256.size h).emb j)

variable (i : grid0.Coords)

/-- The tile's row of a table of a value per row. -/
def rowT (t : Vec F S8x256 .f32) : Vec F S1x256 .f32 :=
  fun j => t ((Rect.unit (s := S8x256) (k0_off14 i) S1x256.size (k0_off14_inb i)).emb j)

/-- The length the body reads. -/
def lenAt (v : Vec F S24 .i32) : BitVec 32 :=
  v ((Rect.unit (s := S24) (k0_off1 i) S1.size (k0_off1_inb i)).point numel1_S1)

/-- What the loads in front of the chunks read. -/
def ctxV (v : In F) (row0 len : BitVec 32) : Ctx F :=
  { ga := shapeCast S1x1536 (fun j => v.ga (rectG.emb j)) shapeCasts_S1x1536_S1x1536
    be := shapeCast S1x1536 (fun j => v.be (rectG.emb j)) shapeCasts_S1x1536_S1x1536
    inv := invG (shapeCast S1x1536 (fun j => v.ga (rectG.emb j)) shapeCasts_S1x1536_S1x1536)
    cols := colsOf (rowS v.sc (k0_off2 i) (k0_off2_inb i)) (rowS v.sc (k0_off3 i) (k0_off3_inb i))
      (rowS v.sc (k0_off4 i) (k0_off4_inb i)) (rowS v.sc (k0_off5 i) (k0_off5_inb i))
      (rowS v.sc (k0_off6 i) (k0_off6_inb i)) (rowS v.sc (k0_off7 i) (k0_off7_inb i))
      (rowS v.sc (k0_off8 i) (k0_off8_inb i)) (rowS v.sc (k0_off9 i) (k0_off9_inb i))
      (rowS v.sc (k0_off10 i) (k0_off10_inb i)) (rowS v.sc (k0_off11 i) (k0_off11_inb i))
      (rowS v.sc (k0_off12 i) (k0_off12_inb i)) (rowS v.sc (k0_off13 i) (k0_off13_inb i))
      (rowT i v.dsc) (rowT i v.rs)
    row0 := row0, len := len }

/-- The tile's first row. -/
def row0At : BitVec 32 := Scalar.muli (BitVec.ofNat 32 (i 1).val) 256#32

/-- At the first tile both accumulators are zero. -/
def stage1V (h : Acc F) : Acc F :=
  if cond1 i = 1#1 then ⟨h.dx, rectB.overlay h.aDy zeroA, rectB.overlay h.aDyx zeroA⟩ else h

/-- A tile with no row below the length. -/
def stage2V (len : BitVec 32) (h : Acc F) : Acc F :=
  if k0_cond2 i len = 1#1 then ⟨rectX.overlay h.dx (broadcast S1x256x1536 (Scalar.ofBits .bf16 0x0000#16)), h.aDy, h.aDyx⟩
  else h

/-- A tile with some row below the length. -/
def stage3V (v : In F) (len : BitVec 32) (h : Acc F) : Acc F :=
  if k0_cond3 i len = 1#1 then workV v.y v.dy (ctxV i v (row0At i) len) h else h

/-- At the last tile the column sums of the accumulators are written. -/
def stage4V (o : Out F) : Out F :=
  if k0_cond4 i = 1#1 then
    ⟨o.acc, rectG.overlay o.dga (sumA fun j => o.acc.aDyx (rectB.emb j)), rectG.overlay o.dbe (sumA fun j => o.acc.aDy (rectB.emb j))⟩
  else o

/-- What the body leaves. -/
def accV (v : In F) (h : Acc F) : Acc F :=
  stage3V i v (lenAt i v.len) (stage2V i (lenAt i v.len) (stage1V i h))

/-- What the body leaves. -/
def bodyV (v : In F) (o : Out F) : Out F := stage4V i ⟨accV i v o.acc, o.dga, o.dbe⟩

variable {defs : Defs nD τ sig (Elt F) Λ₀} (𝒱 : Variants) (c : Dev nD) (bd : Option 𝒱.V) (E : Set ℕ)

local notation "𝕄" => MT nD τ sig Unit (Elt F) ℕ U ℕ

variable (arg2 : Memref sig .tc .smem S24 .i32) (arg3 : Memref sig .tc .vmem S1x256x1536 .fp8e4m3)
  (arg4 : Memref sig .tc .vmem S12x8x256 .f32) (arg5 : Memref sig .tc .vmem S1x256x1536 .fp8e5m2)
  (arg6 : Memref sig .tc .vmem S8x256 .f32) (arg7 : Memref sig .tc .vmem S8x256 .f32)
  (arg8 : Memref sig .tc .vmem S1x1536 .f32) (arg9 : Memref sig .tc .vmem S1x1536 .f32)
  (arg10 : Memref sig .tc .vmem S1x256x1536 .bf16) (harg10 : arg10.IsWhole)
  (arg11 : Memref sig .tc .vmem S1x1536 .f32) (arg12 : Memref sig .tc .vmem S1x1536 .f32)
  (arg13 : Memref sig .tc .vmem S8x1536 .f32) (arg14 : Memref sig .tc .vmem S8x1536 .f32)

/-- The two accumulators' zeroing at the first tile. -/
def stage1 : Prog (TpuEff nD τ sig (Elt F) Λ₀ .tc) PUnit :=
  if cond1 i = 1#1 then zeroAcc arg13 >>= fun _ => zeroAcc arg14 else pure ⟨⟩

/-- A tile with no row below the length. -/
def stage2 (len : BitVec 32) : Prog (TpuEff nD τ sig (Elt F) Λ₀ .tc) PUnit :=
  if k0_cond2 i len = 1#1 then zeroDx arg10 harg10 else pure ⟨⟩

/-- A tile with some row below the length. -/
def stage3 (len : BitVec 32) : Prog (TpuEff nD τ sig (Elt F) Λ₀ .tc) PUnit :=
  if k0_cond3 i len = 1#1 then
    work arg3 arg5 arg10 harg10 arg13 arg14 i arg4 arg6 arg7 arg8 arg9 (row0At i) len
  else pure ⟨⟩

/-- The column sums at the last tile. -/
def stage4 : Prog (TpuEff nD τ sig (Elt F) Λ₀ .tc) PUnit :=
  if k0_cond4 i = 1#1 then flush arg14 arg11 >>= fun _ => flush arg13 arg12 else pure ⟨⟩

/-- The body is its four stages. -/
theorem body_stages :
    body (F := F) arg3 arg5 arg10 harg10 arg13 arg14 i arg2 arg4 arg6 arg7 arg8 arg9 arg11 arg12
    = (smemLoad arg2 (Rect.unit (s := S24) (k0_off1 i) S1.size (k0_off1_inb i)) numel1_S1 rfl
        : Prog (TpuEff nD τ sig (Elt F) Λ₀ .tc) (Elt F .i32)) >>= fun len =>
      stage1 i arg13 arg14 >>= fun _ => stage2 i arg10 harg10 len >>= fun _ =>
      stage3 i arg3 arg4 arg5 arg6 arg7 arg8 arg9 arg10 harg10 arg13 arg14 len >>= fun _ =>
      stage4 i arg11 arg12 arg13 arg14 := by
  unfold body stage1 stage2 stage3 stage4
  refine congrArg _ (funext fun len => ?_)
  by_cases h1 : cond1 i = 1#1 <;> by_cases h2 : k0_cond2 i len = 1#1 <;> by_cases h3 : k0_cond3 i len = 1#1 <;>
    by_cases h4 : k0_cond4 i = 1#1 <;> simp only [h1, h2, h3, h4, if_true, if_false, row0At, bind_assoc] <;> rfl

/-- The blocks of the inputs, owned. -/
def heldIn (q : PosShare TreeShare) (v : In F) : sProp 𝕄 :=
  iprop(owns (c.tc : Thread nD τ) arg2 q v.len ∗ owns (c.tc : Thread nD τ) arg4 fullShare v.sc
    ∗ owns (c.tc : Thread nD τ) arg6 fullShare v.dsc ∗ owns (c.tc : Thread nD τ) arg7 fullShare v.rs
    ∗ owns (c.tc : Thread nD τ) arg8 fullShare v.ga ∗ owns (c.tc : Thread nD τ) arg9 fullShare v.be)

/-- The two column sums, owned. -/
def heldSums (a b : Vec F S1x1536 .f32) : sProp 𝕄 :=
  iprop(owns (c.tc : Thread nD τ) arg11 fullShare a ∗ owns (c.tc : Thread nD τ) arg12 fullShare b)

theorem run_zeroAcc (m : Memref sig .tc .vmem S8x1536 .f32) (a : Vec F S8x1536 .f32) :
    owns (c.tc : Thread nD τ) m fullShare a
      ⊢ wp frame (wpE defs 𝒱 c.tc bd) E (zeroAcc m) (fun _ =>
        (owns (c.tc : Thread nD τ) m fullShare (rectB.overlay a zeroA) : sProp 𝕄)) := by
  unfold zeroAcc
  iintro Ha
  iapply (wp_load_owns 𝒱 c.tc bd E) $$ Ha; iintro Ha
  iapply (wp_store_owns 𝒱 c.tc bd E) $$ Ha; iintro Ha
  iapply (wp_done 𝒱 c.tc bd E)
  iexact Ha

theorem run_zeroDx (a : Vec F S1x256x1536 .bf16) :
    owns (c.tc : Thread nD τ) arg10 fullShare a
      ⊢ wp frame (wpE defs 𝒱 c.tc bd) E (zeroDx arg10 harg10) (fun _ =>
        (owns (c.tc : Thread nD τ) arg10 fullShare (rectX.overlay a (broadcast S1x256x1536 (Scalar.ofBits .bf16 0x0000#16))) : sProp 𝕄)) := by
  unfold zeroDx
  iintro Ha
  iapply (wp_load_owns 𝒱 c.tc bd E) $$ Ha; iintro Ha
  iapply (wp_store_owns 𝒱 c.tc bd E) $$ Ha; iintro Ha
  iapply (wp_done 𝒱 c.tc bd E)
  iexact Ha

theorem run_flush (m : Memref sig .tc .vmem S8x1536 .f32) (o : Memref sig .tc .vmem S1x1536 .f32)
    (a : Vec F S8x1536 .f32) (b : Vec F S1x1536 .f32) :
    iprop(owns (c.tc : Thread nD τ) m fullShare a ∗ owns (c.tc : Thread nD τ) o fullShare b)
      ⊢ wp frame (wpE defs 𝒱 c.tc bd) E (flush m o) (fun _ =>
        (iprop(owns (c.tc : Thread nD τ) m fullShare a
          ∗ owns (c.tc : Thread nD τ) o fullShare (rectG.overlay b (sumA fun j => a (rectB.emb j)))) : sProp 𝕄)) := by
  unfold flush
  iintro ⟨Ha, Hb⟩
  iapply (wp_load_owns 𝒱 c.tc bd E) $$ Ha; iintro Ha
  iapply (wp_load_owns 𝒱 c.tc bd E) $$ Hb; iintro Hb
  iapply (wp_store_owns 𝒱 c.tc bd E) $$ Hb; iintro Hb
  iapply (wp_done 𝒱 c.tc bd E)
  isplitl [Ha]
  · iexact Ha
  · iexact Hb

theorem run_ctx (q : PosShare TreeShare) (v : In F) (row0 len : BitVec 32) :
    heldIn c arg2 arg4 arg6 arg7 arg8 arg9 q v
      ⊢ wp frame (wpE defs 𝒱 c.tc bd) E (ctx i arg4 arg6 arg7 arg8 arg9 row0 len) (fun x =>
        (iprop(⌜x = ctxV i v row0 len⌝ ∗ heldIn c arg2 arg4 arg6 arg7 arg8 arg9 q v) : sProp 𝕄)) := by
  unfold ctx heldIn loadScale
  iintro ⟨Hl, Hs, Ht, Hr, Hg, Hb⟩
  iapply (wp_load_owns 𝒱 c.tc bd E) $$ Hg; iintro Hg
  iapply (wp_load_owns 𝒱 c.tc bd E) $$ Hb; iintro Hb
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Hs; iintro Hs
  iapply (wp_load_owns 𝒱 c.tc bd E) $$ Ht; iintro Ht
  iapply (wp_load_owns 𝒱 c.tc bd E) $$ Hr; iintro Hr
  iapply (wp_done 𝒱 c.tc bd E)
  isplitr
  · ipureintro; rfl
  · isplitl [Hl]
    · iexact Hl
    isplitl [Hs]
    · iexact Hs
    isplitl [Ht]
    · iexact Ht
    isplitl [Hr]
    · iexact Hr
    isplitl [Hg]
    · iexact Hg
    · iexact Hb

theorem run_work (q : PosShare TreeShare) (v : In F) (row0 len : BitVec 32) (h : Acc F) :
    iprop(heldIn c arg2 arg4 arg6 arg7 arg8 arg9 q v ∗ held c arg3 arg5 arg10 arg13 arg14 v.y v.dy h)
      ⊢ wp frame (wpE defs 𝒱 c.tc bd) E (work arg3 arg5 arg10 harg10 arg13 arg14 i arg4 arg6 arg7 arg8 arg9 row0 len) (fun _ =>
        (iprop(heldIn c arg2 arg4 arg6 arg7 arg8 arg9 q v
          ∗ held c arg3 arg5 arg10 arg13 arg14 v.y v.dy (workV v.y v.dy (ctxV i v row0 len) h)) : sProp 𝕄)) := by
  unfold work
  rw [wp_bind]
  refine (sep_mono_left (run_ctx (defs := defs) i 𝒱 c bd E arg2 arg4 arg6 arg7 arg8 arg9 q v row0 len)).trans ?_
  refine (wp_frame_r _ _ _).trans (wp_mono _ _ _ fun x => ?_)
  iintro ⟨⟨%hx, H⟩, K⟩
  subst hx
  iapply (wp_frame_l _ _ _)
  isplitl [H]
  · iexact H
  · iapply (run_chunks (defs := defs) 𝒱 c bd E arg3 arg5 arg10 harg10 arg13 arg14 v.y v.dy _ h) $$ K

theorem run_stage1 (Y : Vec F S1x256x1536 .fp8e4m3) (D : Vec F S1x256x1536 .fp8e5m2) (h : Acc F) :
    held c arg3 arg5 arg10 arg13 arg14 Y D h
      ⊢ wp frame (wpE defs 𝒱 c.tc bd) E (stage1 i arg13 arg14) (fun _ =>
        (held c arg3 arg5 arg10 arg13 arg14 Y D (stage1V i h) : sProp 𝕄)) := by
  unfold stage1 stage1V
  by_cases hc : cond1 i = 1#1
  · rw [if_pos hc, if_pos hc, wp_bind]
    unfold held
    iintro ⟨Hy, Hd, Hx, Ha, Hb⟩
    ihave Ha := run_zeroAcc (defs := defs) 𝒱 c bd E arg13 h.aDy $$ Ha
    iapply (wp_wand _ _ _) $$ Ha
    iintro %_ Ha
    ihave Hb := run_zeroAcc (defs := defs) 𝒱 c bd E arg14 h.aDyx $$ Hb
    iapply (wp_wand _ _ _) $$ Hb
    iintro %_ Hb
    isplitl [Hy]
    · iexact Hy
    isplitl [Hd]
    · iexact Hd
    isplitl [Hx]
    · iexact Hx
    isplitl [Ha]
    · iexact Ha
    · iexact Hb
  · rw [if_neg hc, if_neg hc]
    exact wp_done (defs := defs) (Q := fun _ => _) (a := PUnit.unit) 𝒱 c.tc bd E

theorem run_stage2 (Y : Vec F S1x256x1536 .fp8e4m3) (D : Vec F S1x256x1536 .fp8e5m2) (len : BitVec 32) (h : Acc F) :
    held c arg3 arg5 arg10 arg13 arg14 Y D h
      ⊢ wp frame (wpE defs 𝒱 c.tc bd) E (stage2 i arg10 harg10 len) (fun _ =>
        (held c arg3 arg5 arg10 arg13 arg14 Y D (stage2V i len h) : sProp 𝕄)) := by
  unfold stage2 stage2V
  by_cases hc : k0_cond2 i len = 1#1
  · rw [if_pos hc, if_pos hc]
    unfold held
    iintro ⟨Hy, Hd, Hx, Ha, Hb⟩
    ihave Hx := run_zeroDx (defs := defs) 𝒱 c bd E arg10 harg10 h.dx $$ Hx
    iapply (wp_wand _ _ _) $$ Hx
    iintro %_ Hx
    isplitl [Hy]
    · iexact Hy
    isplitl [Hd]
    · iexact Hd
    isplitl [Hx]
    · iexact Hx
    isplitl [Ha]
    · iexact Ha
    · iexact Hb
  · rw [if_neg hc, if_neg hc]
    exact wp_done (defs := defs) (Q := fun _ => _) (a := PUnit.unit) 𝒱 c.tc bd E

theorem run_stage3 (q : PosShare TreeShare) (v : In F) (len : BitVec 32) (h : Acc F) :
    iprop(heldIn c arg2 arg4 arg6 arg7 arg8 arg9 q v ∗ held c arg3 arg5 arg10 arg13 arg14 v.y v.dy h)
      ⊢ wp frame (wpE defs 𝒱 c.tc bd) E
          (stage3 i arg3 arg4 arg5 arg6 arg7 arg8 arg9 arg10 harg10 arg13 arg14 len) (fun _ =>
        (iprop(heldIn c arg2 arg4 arg6 arg7 arg8 arg9 q v
          ∗ held c arg3 arg5 arg10 arg13 arg14 v.y v.dy (stage3V i v len h)) : sProp 𝕄)) := by
  unfold stage3 stage3V
  by_cases hc : k0_cond3 i len = 1#1
  · rw [if_pos hc, if_pos hc]
    exact run_work (defs := defs) i 𝒱 c bd E arg2 arg3 arg4 arg5 arg6 arg7 arg8 arg9 arg10 harg10 arg13 arg14 q v _ len h
  · rw [if_neg hc, if_neg hc]
    exact wp_done (defs := defs) (Q := fun _ => _) (a := PUnit.unit) 𝒱 c.tc bd E

theorem run_stage4 (Y : Vec F S1x256x1536 .fp8e4m3) (D : Vec F S1x256x1536 .fp8e5m2) (o : Out F) :
    iprop(held c arg3 arg5 arg10 arg13 arg14 Y D o.acc ∗ heldSums c arg11 arg12 o.dga o.dbe)
      ⊢ wp frame (wpE defs 𝒱 c.tc bd) E (stage4 i arg11 arg12 arg13 arg14) (fun _ =>
        (iprop(held c arg3 arg5 arg10 arg13 arg14 Y D (stage4V i o).acc
          ∗ heldSums c arg11 arg12 (stage4V i o).dga (stage4V i o).dbe) : sProp 𝕄)) := by
  unfold stage4 stage4V
  by_cases hc : k0_cond4 i = 1#1
  · rw [if_pos hc, if_pos hc, wp_bind]
    unfold held heldSums
    iintro ⟨⟨Hy, Hd, Hx, Ha, Hb⟩, Hg, He⟩
    ihave H := run_flush (defs := defs) 𝒱 c bd E arg14 arg11 o.acc.aDyx o.dga $$ [Hb Hg]
    · isplitl [Hb]
      · iexact Hb
      · iexact Hg
    iapply (wp_wand _ _ _) $$ H
    iintro %_ ⟨Hb, Hg⟩
    ihave H := run_flush (defs := defs) 𝒱 c bd E arg13 arg12 o.acc.aDy o.dbe $$ [Ha He]
    · isplitl [Ha]
      · iexact Ha
      · iexact He
    iapply (wp_wand _ _ _) $$ H
    iintro %_ ⟨Ha, He⟩
    isplitr [Hg He]
    · isplitl [Hy]
      · iexact Hy
      isplitl [Hd]
      · iexact Hd
      isplitl [Hx]
      · iexact Hx
      isplitl [Ha]
      · iexact Ha
      · iexact Hb
    · isplitl [Hg]
      · iexact Hg
      · iexact He
  · rw [if_neg hc, if_neg hc]
    exact wp_done (defs := defs) (Q := fun _ => _) (a := PUnit.unit) 𝒱 c.tc bd E

/-- The body leaves what `bodyV` says. -/
theorem run_body (q : PosShare TreeShare) (v : In F) (o : Out F) :
    iprop(heldIn c arg2 arg4 arg6 arg7 arg8 arg9 q v ∗ held c arg3 arg5 arg10 arg13 arg14 v.y v.dy o.acc
        ∗ heldSums c arg11 arg12 o.dga o.dbe)
      ⊢ wp frame (wpE defs 𝒱 c.tc bd) E
          (body arg3 arg5 arg10 harg10 arg13 arg14 i arg2 arg4 arg6 arg7 arg8 arg9 arg11 arg12) (fun _ =>
        (iprop(heldIn c arg2 arg4 arg6 arg7 arg8 arg9 q v
          ∗ held c arg3 arg5 arg10 arg13 arg14 v.y v.dy (bodyV i v o).acc
          ∗ heldSums c arg11 arg12 (bodyV i v o).dga (bodyV i v o).dbe) : sProp 𝕄)) := by
  rw [body_stages]
  unfold heldIn
  iintro ⟨⟨Hl, Hr⟩, Hh, Ho⟩
  iapply (wp_word_owns 𝒱 c.tc bd E) $$ Hl; iintro Hl
  rw [wp_bind]
  ihave Hh := run_stage1 (defs := defs) i 𝒱 c bd E arg3 arg5 arg10 arg13 arg14 v.y v.dy o.acc $$ Hh
  iapply (wp_wand _ _ _) $$ Hh
  iintro %_ Hh
  rw [wp_bind]
  ihave Hh := run_stage2 (defs := defs) i 𝒱 c bd E arg3 arg5 arg10 harg10 arg13 arg14 v.y v.dy (lenAt i v.len) _ $$ Hh
  iapply (wp_wand _ _ _) $$ Hh
  iintro %_ Hh
  rw [wp_bind]
  ihave H := run_stage3 (defs := defs) i 𝒱 c bd E arg2 arg3 arg4 arg5 arg6 arg7 arg8 arg9 arg10 harg10 arg13 arg14 q v
    (lenAt i v.len) _ $$ [Hl Hr Hh]
  · unfold heldIn
    isplitr [Hh]
    · isplitl [Hl]
      · iexact Hl
      · iexact Hr
    · iexact Hh
  iapply (wp_wand _ _ _) $$ H
  iintro %_ ⟨Hi, Hh⟩
  ihave H := run_stage4 (defs := defs) i 𝒱 c bd E arg3 arg5 arg10 arg11 arg12 arg13 arg14 v.y v.dy ⟨accV i v o.acc, o.dga, o.dbe⟩
    $$ [Hh Ho]
  · isplitl [Hh]
    · iexact Hh
    · iexact Ho
  iapply (wp_wand _ _ _) $$ H
  iintro %_ ⟨Hh, Ho⟩
  isplitl [Hi]
  · unfold heldIn
    iexact Hi
  isplitl [Hh]
  · iexact Hh
  · iexact Ho

end Cert.KernelIdeal.Tile
-- ==== Proof.Fold.lean ====
module

public import proofs.«01_k».proof.Proof.BodyRun
public import Idealize.ShloMosaic.Lib.Pipeline.Value

/-!
# What the folds of a tile leave, element by element

The passes write disjoint rectangles one after the other. `foldl_pick` reads one element after such a fold: only the
step that owns it counts. With it the block of `dx` a tile's run leaves is the block computed at the element's
chunk and lane block, whatever the buffer held before, and an accumulator's element receives its own terms alone.
-/

@[expose] public section

noncomputable section

namespace Cert.KernelIdeal.Tile

open Idealize.ShloMosaic Idealize.SL.Sem
open Cert.KernelIdeal Cert.KernelIdeal.Facts₀ Cert.KernelIdeal.Facts

/-- A fold of writes none of which touches `j`. -/
theorem foldl_skip {α κ ι : Type} (f : (ι → α) → κ → ι → α) (j : ι) :
    ∀ (l : List κ) (X : ι → α), (∀ X, ∀ k ∈ l, f X k j = X j) → l.foldl f X j = X j
  | [], _, _ => rfl
  | k :: l, X, h => (foldl_skip f j l (f X k) fun X k' hk => h X k' (List.mem_cons_of_mem _ hk)).trans
      (h X k List.mem_cons_self)

/-- A fold of writes only one of which, `k`, touches `j`. -/
theorem foldl_pick {α κ ι : Type} (f : (ι → α) → κ → ι → α) (j : ι) (k : κ) (op : α → α)
    (hown : ∀ X, f X k j = op (X j)) (hnot : ∀ X k', k' ≠ k → f X k' j = X j) :
    ∀ (l : List κ) (X : ι → α), l.Nodup → k ∈ l → l.foldl f X j = op (X j)
  | [], _, _, h => absurd h List.not_mem_nil
  | a :: l, X, hn, h => by
    rw [List.nodup_cons] at hn
    rw [List.foldl_cons]
    rcases List.mem_cons.1 h with rfl | h'
    · rw [foldl_skip f j l _ fun X k' hk => hnot X k' (fun e => hn.1 (e ▸ hk)), hown]
    · rw [foldl_pick f j k op hown hnot l _ hn.2 h', hnot X a (fun e => hn.1 (e ▸ h'))]

/-- A fold of functions read at one point where each step acts on that point's value alone. -/
theorem foldl_apply {α κ ι : Type} (f : (ι → α) → κ → ι → α) (j : ι) (op : κ → α → α) (h : ∀ X k, f X k j = op k (X j)) :
    ∀ (l : List κ) (X : ι → α), l.foldl f X j = l.foldl (fun x k => op k x) (X j)
  | [], _ => rfl
  | k :: l, X => by rw [List.foldl_cons, List.foldl_cons, foldl_apply f j op h l, h]

variable {F : FTy → Type} [FloatOps F] [Named F]

/-- The chunk a row lies in and the lane block a column lies in. -/
def rowChunk (n : Fin 256) : Fin 8 := ⟨n.val / 32, by omega⟩
def colBlock (n : Fin 1536) : Fin 12 := ⟨n.val / 128, by omega⟩

/-- An element's place inside its rectangle of a tile, and of an accumulator. -/
def inTile (j : S1x256x1536.Idx) : S1x32x128.Idx :=
  Fin.cons (α := fun a => Fin (S1x32x128.size a)) ⟨0, by decide⟩ (Fin.cons (α := fun a : Fin 2 => Fin (S1x32x128.size a.succ)) ⟨(j 1).val % 32, Nat.mod_lt _ (by decide)⟩
    (Fin.cons (α := fun a : Fin 1 => Fin (S1x32x128.size a.succ.succ)) ⟨(j 2).val % 128, Nat.mod_lt _ (by decide)⟩ (fun a => a.elim0)))

def inAcc (j : S8x1536.Idx) : S8x128.Idx :=
  Fin.cons (α := fun a => Fin (S8x128.size a)) (j 0)
    (Fin.cons (α := fun a : Fin 1 => Fin (S8x128.size a.succ)) ⟨(j 1).val % 128, Nat.mod_lt _ (by decide)⟩ (fun a => a.elim0))

theorem emb_inTile (j : S1x256x1536.Idx) : (rectT (rowChunk (j 1)) (colBlock (j 2))).emb (inTile j) = j := by
  funext a
  apply Fin.ext
  have h0 : (j 0).val < 1 := (j 0).isLt
  rw [Rect.emb_apply]
  fin_cases a
  · change 0 + 1 * 0 = (j 0).val; omega
  · change 32 * ((j 1).val / 32) + 1 * ((j 1).val % 32) = (j 1).val; omega
  · change 128 * ((j 2).val / 128) + 1 * ((j 2).val % 128) = (j 2).val; omega

theorem emb_inAcc (j : S8x1536.Idx) : (rectA (colBlock (j 1))).emb (inAcc j) = j := by
  funext a
  apply Fin.ext
  rw [Rect.emb_apply]
  fin_cases a
  · change 0 + 1 * (j 0).val = (j 0).val; omega
  · change 128 * ((j 1).val / 128) + 1 * ((j 1).val % 128) = (j 1).val; omega

theorem not_mem_rectT {r : Fin 8} {k : Fin 12} (j : S1x256x1536.Idx) (h : r ≠ rowChunk (j 1) ∨ k ≠ colBlock (j 2)) :
    j ∉ (rectT r k).set := by
  intro hm
  rw [Rect.mem_set_unit] at hm
  have h1 := hm 1
  have h2 := hm 2
  change 32 * r.val ≤ (j 1).val ∧ (j 1).val < 32 * r.val + 32 at h1
  change 128 * k.val ≤ (j 2).val ∧ (j 2).val < 128 * k.val + 128 at h2
  rcases h with h | h
  · exact h (Fin.ext (show r.val = (j 1).val / 32 by omega))
  · exact h (Fin.ext (show k.val = (j 2).val / 128 by omega))

theorem not_mem_rectA {k : Fin 12} (j : S8x1536.Idx) (h : k ≠ colBlock (j 1)) : j ∉ (rectA k).set := by
  intro hm
  rw [Rect.mem_set_unit] at hm
  have h1 := hm 1
  change 128 * k.val ≤ (j 1).val ∧ (j 1).val < 128 * k.val + 128 at h1
  exact h (Fin.ext (show k.val = (j 1).val / 128 by omega))

theorem chunks_nodup : chunks.Nodup := by decide
theorem blocks_nodup : blocks.Nodup := by decide
theorem mem_chunks : ∀ r : Fin 8, r ∈ chunks := by decide
theorem mem_blocks : ∀ k : Fin 12, k ∈ blocks := by decide

/-- An overlay read at an element of its rectangle and at any other. -/
theorem overlay_at {s : Shape} {α : Type} (r : Rect s) (X : s.Idx → α) (G : r.shape.Idx → α) (q : r.shape.Idx) {j : s.Idx}
    (h : r.emb q = j) : r.overlay X G j = G q := h ▸ r.overlay_emb X G q

variable (Y : Vec F S1x256x1536 .fp8e4m3) (D : Vec F S1x256x1536 .fp8e5m2) (x : Ctx F)

/-- A chunk's running sums by lane after its first pass. -/
def sumsV (r : Fin 8) : FVec F S32x128 .f32 × FVec F S32x128 .f32 :=
  blocks.foldl (fun s k => addSums x r k (fun j => D ((rectT r k).emb j)) (fun j => Y ((rectT r k).emb j)) s) zeroSums

/-- One write of the second pass. -/
def putDx (r : Fin 8) (X : Vec F S1x256x1536 .bf16) (k : Fin 12) : Vec F S1x256x1536 .bf16 :=
  (rectT r k).overlay X (dxBlk x r (meanOf (sumsV Y D x r).1) (meanOf (sumsV Y D x r).2) k
    (fun j => D ((rectT r k).emb j)) (fun j => Y ((rectT r k).emb j)))

/-- One write of the first pass to the accumulator of `dy`, and to that of `dy * xhat`. -/
def putDy (r : Fin 8) (a : Vec F S8x1536 .f32) (k : Fin 12) : Vec F S8x1536 .f32 :=
  (rectA k).overlay a (addDy x r (fun j => D ((rectT r k).emb j)) (fun j => a ((rectA k).emb j)))
def putDyx (r : Fin 8) (b : Vec F S8x1536 .f32) (k : Fin 12) : Vec F S8x1536 .f32 :=
  (rectA k).overlay b (addDyx x r k (fun j => D ((rectT r k).emb j)) (fun j => Y ((rectT r k).emb j))
    (fun j => b ((rectA k).emb j)))

theorem step1_foldl (r : Fin 8) : ∀ (l : List (Fin 12)) (h : Acc F) (s : FVec F S32x128 .f32 × FVec F S32x128 .f32),
    l.foldl (step1 Y D x r) (h, s)
    = (⟨h.dx, l.foldl (putDy D x r) h.aDy, l.foldl (putDyx Y D x r) h.aDyx⟩,
        l.foldl (fun s k => addSums x r k (fun j => D ((rectT r k).emb j)) (fun j => Y ((rectT r k).emb j)) s) s)
  | [], _, _ => rfl
  | k :: l, h, s => by
    rw [List.foldl_cons, show step1 Y D x r (h, s) k = (⟨h.dx, putDy D x r h.aDy k, putDyx Y D x r h.aDyx k⟩,
      addSums x r k (fun j => D ((rectT r k).emb j)) (fun j => Y ((rectT r k).emb j)) s) from rfl, step1_foldl r l]
    rfl

theorem step2_foldl (r : Fin 8) : ∀ (l : List (Fin 12)) (h : Acc F) (u : PUnit.{1}),
    l.foldl (step2 Y D x r (meanOf (sumsV Y D x r).1) (meanOf (sumsV Y D x r).2)) (h, u)
    = (⟨l.foldl (putDx Y D x r) h.dx, h.aDy, h.aDyx⟩, ⟨⟩)
  | [], _, _ => rfl
  | k :: l, h, u => by
    rw [List.foldl_cons, show step2 Y D x r (meanOf (sumsV Y D x r).1) (meanOf (sumsV Y D x r).2) (h, u) k
      = (⟨putDx Y D x r h.dx k, h.aDy, h.aDyx⟩, ⟨⟩) from rfl, step2_foldl r l]
    rfl

/-- A chunk's writes. -/
def chunkDx (X : Vec F S1x256x1536 .bf16) (r : Fin 8) : Vec F S1x256x1536 .bf16 := blocks.foldl (putDx Y D x r) X
def chunkDy (a : Vec F S8x1536 .f32) (r : Fin 8) : Vec F S8x1536 .f32 := blocks.foldl (putDy D x r) a
def chunkDyx (b : Vec F S8x1536 .f32) (r : Fin 8) : Vec F S8x1536 .f32 := blocks.foldl (putDyx Y D x r) b

theorem chunkV_eq (h : Acc F) (u : PUnit.{1}) (r : Fin 8) : chunkV Y D x (h, u) r
    = (⟨chunkDx Y D x h.dx r, chunkDy D x h.aDy r, chunkDyx Y D x h.aDyx r⟩, ⟨⟩) := by
  unfold chunkV
  rw [step1_foldl]
  exact step2_foldl Y D x r blocks _ _

theorem chunks_foldl (l : List (Fin 8)) : ∀ (h : Acc F) (u : PUnit.{1}), l.foldl (chunkV Y D x) (h, u)
    = (⟨l.foldl (chunkDx Y D x) h.dx, l.foldl (chunkDy D x) h.aDy, l.foldl (chunkDyx Y D x) h.aDyx⟩, ⟨⟩) := by
  induction l with
  | nil => intro h u; rfl
  | cons r l ih => intro h u; simp only [List.foldl_cons]; rw [chunkV_eq, ih]

/-- What a tile's run leaves, as three separate folds. -/
theorem workV_eq (h : Acc F) : workV Y D x h
    = ⟨chunks.foldl (chunkDx Y D x) h.dx, chunks.foldl (chunkDy D x) h.aDy, chunks.foldl (chunkDyx Y D x) h.aDyx⟩ := by
  unfold workV; rw [chunks_foldl]

/-- The block of `dx` a tile's run leaves: each element from its chunk's means. -/
def dxTile (j : S1x256x1536.Idx) : F .bf16 :=
  dxBlk x (rowChunk (j 1)) (meanOf (sumsV Y D x (rowChunk (j 1))).1) (meanOf (sumsV Y D x (rowChunk (j 1))).2) (colBlock (j 2))
    (fun i => D ((rectT (rowChunk (j 1)) (colBlock (j 2))).emb i)) (fun i => Y ((rectT (rowChunk (j 1)) (colBlock (j 2))).emb i))
    (inTile j)

theorem putDx_at (X : Vec F S1x256x1536 .bf16) (j : S1x256x1536.Idx) :
    putDx Y D x (rowChunk (j 1)) X (colBlock (j 2)) j = dxTile Y D x j := by
  unfold putDx dxTile
  exact overlay_at (rectT (rowChunk (j 1)) (colBlock (j 2))) X _ (inTile j) (emb_inTile j)

theorem putDx_other (r : Fin 8) (k : Fin 12) (X : Vec F S1x256x1536 .bf16) (j : S1x256x1536.Idx)
    (h : r ≠ rowChunk (j 1) ∨ k ≠ colBlock (j 2)) : putDx Y D x r X k j = X j := by
  unfold putDx
  exact Rect.overlay_of_not_mem _ _ _ (not_mem_rectT j h)

theorem chunkDx_own (X : Vec F S1x256x1536 .bf16) (j : S1x256x1536.Idx) :
    chunkDx Y D x X (rowChunk (j 1)) j = dxTile Y D x j := by
  unfold chunkDx
  exact foldl_pick (putDx Y D x (rowChunk (j 1))) j (colBlock (j 2)) (fun _ => dxTile Y D x j)
    (fun X => putDx_at Y D x X j) (fun X k hk => putDx_other Y D x _ k X j (.inr hk)) blocks X blocks_nodup (mem_blocks _)

theorem chunkDx_other (r : Fin 8) (X : Vec F S1x256x1536 .bf16) (j : S1x256x1536.Idx) (hr : r ≠ rowChunk (j 1)) :
    chunkDx Y D x X r j = X j := by
  unfold chunkDx
  exact foldl_skip (putDx Y D x r) j blocks X fun X k _ => putDx_other Y D x r k X j (.inl hr)

/-- Whatever the buffer of `dx` held, a tile's run leaves `dxTile`. -/
theorem workV_dx (h : Acc F) : (workV Y D x h).dx = dxTile Y D x := by
  rw [workV_eq]
  funext j
  exact foldl_pick (chunkDx Y D x) j (rowChunk (j 1)) (fun _ => dxTile Y D x j)
    (fun X => chunkDx_own Y D x X j) (fun X r hr => chunkDx_other Y D x r X j hr) chunks h.dx chunks_nodup (mem_chunks _)

/-- What a chunk adds to an element of the accumulator of `dy`, and of that of `dy * xhat`. -/
def termDy (r : Fin 8) (j : S8x1536.Idx) : F .f32 :=
  fold8 (dyM x r (fun i => D ((rectT r (colBlock (j 1))).emb i))) (inAcc j)
def termDyx (r : Fin 8) (j : S8x1536.Idx) : F .f32 :=
  fold8 (mulf (dyM x r (fun i => D ((rectT r (colBlock (j 1))).emb i)))
    (xhM x r (colBlock (j 1)) (fun i => Y ((rectT r (colBlock (j 1))).emb i)))) (inAcc j)

theorem chunkDy_at (r : Fin 8) (a : Vec F S8x1536 .f32) (j : S8x1536.Idx) :
    chunkDy D x a r j = FloatOps.addf (a j) (termDy D x r j) := by
  unfold chunkDy
  refine foldl_pick (putDy D x r) j (colBlock (j 1)) (fun v => FloatOps.addf v (termDy D x r j)) (fun X => ?_)
    (fun X k hk => ?_) blocks a blocks_nodup (mem_blocks _)
  · unfold putDy
    rw [overlay_at (rectA (colBlock (j 1))) X _ (inAcc j) (emb_inAcc j)]
    unfold addDy
    rw [shapeCast_self]
    unfold addf termDy
    dsimp only
    rw [emb_inAcc]
  · unfold putDy; exact Rect.overlay_of_not_mem _ _ _ (not_mem_rectA j hk)

theorem chunkDyx_at (r : Fin 8) (b : Vec F S8x1536 .f32) (j : S8x1536.Idx) :
    chunkDyx Y D x b r j = FloatOps.addf (b j) (termDyx Y D x r j) := by
  unfold chunkDyx
  refine foldl_pick (putDyx Y D x r) j (colBlock (j 1)) (fun v => FloatOps.addf v (termDyx Y D x r j)) (fun X => ?_)
    (fun X k hk => ?_) blocks b blocks_nodup (mem_blocks _)
  · unfold putDyx
    rw [overlay_at (rectA (colBlock (j 1))) X _ (inAcc j) (emb_inAcc j)]
    unfold addDyx
    rw [shapeCast_self]
    unfold addf termDyx
    dsimp only
    rw [emb_inAcc]
  · unfold putDyx; exact Rect.overlay_of_not_mem _ _ _ (not_mem_rectA j hk)

/-- An accumulator's element after a tile's run. -/
theorem workV_aDy (h : Acc F) (j : S8x1536.Idx) :
    (workV Y D x h).aDy j = chunks.foldl (fun v r => FloatOps.addf v (termDy D x r j)) (h.aDy j) := by
  rw [workV_eq]
  exact foldl_apply (chunkDy D x) j (fun r v => FloatOps.addf v (termDy D x r j)) (fun X r => chunkDy_at D x r X j) chunks h.aDy

theorem workV_aDyx (h : Acc F) (j : S8x1536.Idx) :
    (workV Y D x h).aDyx j = chunks.foldl (fun v r => FloatOps.addf v (termDyx Y D x r j)) (h.aDyx j) := by
  rw [workV_eq]
  exact foldl_apply (chunkDyx Y D x) j (fun r v => FloatOps.addf v (termDyx Y D x r j)) (fun X r => chunkDyx_at Y D x r X j) chunks h.aDyx

/-! ## The body's result from what its buffers held -/

variable (i : grid0.Coords) (v : In F)

/-- On a whole rectangle an overlay leaves nothing of what was there. -/
theorem overlay_rectB (X Z : S8x1536.Idx → F .f32) (G : S8x1536.Idx → F .f32) : rectB.overlay X G = rectB.overlay Z G := by
  funext j
  have e : rectB.emb j = j := by
    funext a; apply Fin.ext; rw [Rect.emb_apply]
    fin_cases a
    · change 0 + 1 * (j 0).val = (j 0).val; omega
    · change 0 + 1 * (j 1).val = (j 1).val; omega
  rw [overlay_at rectB X G j e, overlay_at rectB Z G j e]

theorem overlay_rectX (X G : S1x256x1536.Idx → F .bf16) : rectX.overlay X G = G := by
  funext j
  have e : rectX.emb j = j := by
    funext a; apply Fin.ext; rw [Rect.emb_apply]
    fin_cases a
    · change 0 + 1 * (j 0).val = (j 0).val; omega
    · change 0 + 1 * (j 1).val = (j 1).val; omega
    · change 0 + 1 * (j 2).val = (j 2).val; omega
  exact overlay_at rectX X G j e

/-- The accumulators the body leaves depend on those it found, and not on those at the first tile. -/
theorem accV_congr (h h' : Acc F) (e : cond1 i = 1#1 ∨ (h.aDy = h'.aDy ∧ h.aDyx = h'.aDyx)) :
    (accV i v h).aDy = (accV i v h').aDy ∧ (accV i v h).aDyx = (accV i v h').aDyx := by
  have e1 : (stage1V i h).aDy = (stage1V i h').aDy ∧ (stage1V i h).aDyx = (stage1V i h').aDyx := by
    unfold stage1V
    by_cases hc : cond1 i = 1#1
    · rw [if_pos hc, if_pos hc]; exact ⟨overlay_rectB _ _ _, overlay_rectB _ _ _⟩
    · rw [if_neg hc, if_neg hc]; exact e.resolve_left hc
  have e2 : (stage2V i (lenAt i v.len) (stage1V i h)).aDy = (stage2V i (lenAt i v.len) (stage1V i h')).aDy
      ∧ (stage2V i (lenAt i v.len) (stage1V i h)).aDyx = (stage2V i (lenAt i v.len) (stage1V i h')).aDyx := by
    unfold stage2V
    split
    · exact e1
    · exact e1
  unfold accV stage3V
  split
  · constructor
    · funext j; rw [workV_aDy, workV_aDy, e2.1]
    · funext j; rw [workV_aDyx, workV_aDyx, e2.2]
  · exact e2

/-- The block of `dx` the body leaves, where it writes it, does not depend on what the buffers held. -/
theorem accV_dx (h h' : Acc F) (e : k0_cond2 i (lenAt i v.len) = 1#1 ∨ k0_cond3 i (lenAt i v.len) = 1#1) :
    (accV i v h).dx = (accV i v h').dx := by
  unfold accV stage3V
  by_cases h3 : k0_cond3 i (lenAt i v.len) = 1#1
  · rw [if_pos h3, if_pos h3, workV_dx, workV_dx]
  · rw [if_neg h3, if_neg h3]
    unfold stage2V
    rw [if_pos (e.resolve_right h3), if_pos (e.resolve_right h3)]
    dsimp only
    rw [overlay_rectX, overlay_rectX]

end Cert.KernelIdeal.Tile

end
-- ==== Proof.Data.lean ====
module

public import proofs.«01_k».proof.Proof.Tables
public import proofs.«01_k».proof.Proof.Fold
public import Idealize.ShloMosaic.Lib.Pipeline.Frame
public import Idealize.ShloMosaic.Lib.StableHlo.Run

/-!
# What every buffer holds at every grid point

`inAt` is what the input blocks hold at a point, `accAt n` what the block of `dx` and the two accumulators hold after
the first `n` points, `dats` the same as the proof data of the pipeline.
-/

@[expose] public section

noncomputable section

namespace Cert.KernelIdeal.Tile

open Idealize.ShloMosaic Idealize.ShloMosaic.TcCoe
open Cert.KernelIdeal Cert.KernelIdeal.Gen Cert.KernelIdeal.Facts₀ Cert.KernelIdeal.Facts
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Idealize.ShloMosaic.Pipeline (Dat Cfg Window)

variable {F : FTy → Type} [FloatOps F] [Named F]

variable (m : (ℓ : Loc nD τ sig) → Buf (Elt F) ℓ)

/-- The buffers' contents once the host operations have run. -/
def V (c : Dev nD) (b : Ref sig .tc) : Buf (Elt F) ((c : Thread nD τ).loc b) :=
  StableHlo.after hostOps0 (fun b => m (c, b)) b

/-- The lengths the pipeline is pinned at. -/
def lens : pre0.Contents (Elt F) := fun k => V m 0 (pre0.ref k)

/-- The one table's contents. -/
def lenV : Vec F S24 .i32 := lens m 0

/-- They pass the pipeline's side condition. -/
def adm : (p : Fin 1) → (pcfgs (F := F) p).Adm := fun _ => ⟨lens m, ok_all _⟩

/-- What the input blocks hold at a point. -/
def inAt (c : Dev nD) (t : Fin grid0.N) : In F :=
  { len := lenV m
    y := ((win0 (adm m 0) 0).blk t).view.read (Elt F) (V m c main_arg0)
    sc := ((win0 (adm m 0) 1).blk t).view.read (Elt F) (V m c main_v0)
    dy := ((win0 (adm m 0) 2).blk t).view.read (Elt F) (V m c main_arg2)
    dsc := ((win0 (adm m 0) 3).blk t).view.read (Elt F) (V m c main_arg3)
    rs := ((win0 (adm m 0) 4).blk t).view.read (Elt F) (V m c main_arg4)
    ga := ((win0 (adm m 0) 5).blk t).view.read (Elt F) (V m c main_v1)
    be := ((win0 (adm m 0) 6).blk t).view.read (Elt F) (V m c main_v2) }

/-- Anything, before the first point. -/
def acc0 : Acc F := ⟨broadcast S1x256x1536 (Scalar.ofBits .bf16 0x0000#16), zeroA, zeroA⟩

/-- What the block of `dx` and the accumulators hold after the first `n` points. -/
def accAt (c : Dev nD) : ℕ → Acc F
  | 0 => acc0
  | n + 1 => if h : n < grid0.N then accV (grid0.coords ⟨n, h⟩) (inAt m c ⟨n, h⟩) (accAt c n) else accAt c n

theorem accAt_succ (c : Dev nD) (t : Fin grid0.N) :
    accAt m c (t.val + 1) = accV (grid0.coords t) (inAt m c t) (accAt m c t.val) := by
  rw [accAt, dif_pos t.isLt]

/-- The column sums of `dy * xhat` and of `dy` after the first `n` points. -/
def gammaAt (c : Dev nD) (n : ℕ) : Vec F S1x1536 .f32 := sumA fun j => (accAt m c n).aDyx (rectB.emb j)
def betaAt (c : Dev nD) (n : ℕ) : Vec F S1x1536 .f32 := sumA fun j => (accAt m c n).aDy (rectB.emb j)

/-- What the core owns beside its windows before point `n`: the accumulators, which from the first point on hold what
    the points so far left, the generator's register and half of the lengths. -/
def inv (c : Dev nD) (n : ℕ) : sProp (MT nD τ sig Unit (Elt F) ℕ (UR sig nD τ) ℕ) :=
  iprop((∃ f0 f1, ⌜n ≠ 0 → f0 = (accAt m c n).aDy ∧ f1 = (accAt m c n).aDyx⌝
      ∗ owns (c : Thread nD τ) (Memref.whole cc0_scratch0) fullShare f0 ∗ owns (c : Thread nD τ) (Memref.whole cc0_scratch1) fullShare f1)
    ∗ (∃ r, prngReg c r) ∗ Pipeline.ΦT pre0 (lens m) c)

/-- The proof data. -/
def dats (p : Fin 1) (c : Dev nD) : Dat τ (Elt F) Unit ℕ (UR sig nD τ) ℕ (Pipeline.pin (pcfgs (F := F)) (adm m) p) c where
  A w := V m c (Pipeline.arrRef spec0 w)
  after w t := match w with
    | ⟨0, _⟩ => (inAt m c t).y
    | ⟨1, _⟩ => (inAt m c t).sc
    | ⟨2, _⟩ => (inAt m c t).dy
    | ⟨3, _⟩ => (inAt m c t).dsc
    | ⟨4, _⟩ => (inAt m c t).rs
    | ⟨5, _⟩ => (inAt m c t).ga
    | ⟨6, _⟩ => (inAt m c t).be
    | ⟨7, _⟩ => (accAt m c (t.val + 1)).dx
    | ⟨8, _⟩ => gammaAt m c (t.val + 1)
    | ⟨9, _⟩ => betaAt m c (t.val + 1)
  Φ t := inv m c t.val
  q _ := fullShare
  owed _ := 0

/-! ## The grid -/

theorem coord0 (t : Fin grid0.N) : (grid0.coords t 0).val = t.val / 8 % 24 :=
  Pipeline.Grid.coords_val t 0 (by decide) rfl

theorem coord1 (t : Fin grid0.N) : (grid0.coords t 1).val = t.val % 8 := by
  rw [Pipeline.Grid.coords_val t 1 (S := 1) (B := 8) (by decide) rfl, Nat.div_one]

theorem cond1_first : ∀ i : grid0.Coords, (i 0).val = 0 → (i 1).val = 0 → cond1 i = 1#1 := by
  intro i h0 h1
  unfold cond1
  rw [h0, h1]; rfl

theorem cond4_iff (i : grid0.Coords) : k0_cond4 i = 1#1 ↔ (i 0).val = 23 ∧ (i 1).val = 7 := by
  have h : ∀ (a : Fin 24) (b : Fin 8), (Scalar.cmpi .ne (Scalar.extui (Scalar.andi (Scalar.cmpi .eq (BitVec.ofNat 32 a.val) 23#32)
      (Scalar.cmpi .eq (BitVec.ofNat 32 b.val) 7#32)) : BitVec 32) 0#32) = 1#1 ↔ a.val = 23 ∧ b.val = 7 := by decide
  exact h ⟨(i 0).val, (i 0).isLt⟩ ⟨(i 1).val, (i 1).isLt⟩

theorem cond_or (i : grid0.Coords) (len : BitVec 32) : k0_cond2 i len = 1#1 ∨ k0_cond3 i len = 1#1 := by
  unfold k0_cond2 k0_cond3
  dsimp only
  generalize Scalar.muli (BitVec.ofNat 32 (i 1).val) 256#32 = x
  have h : ∀ b : BitVec 1, b = 0#1 ∨ b = 1#1 := by decide
  have h1 : ∀ b : Bool, (Scalar.cmpi .ne (Scalar.extui (BitVec.ofBool b : BitVec 1) : BitVec 32) 0#32) = BitVec.ofBool b := by decide
  by_cases hc : x.slt len = true
  · right
    have : Scalar.cmpi .slt x len = BitVec.ofBool true := by simp only [Scalar.cmpi, IntOp.cmpi, hc]
    rw [this, h1]; rfl
  · left
    have : Scalar.cmpi .sge x len = BitVec.ofBool true := by
      rw [BitVec.slt_iff_toInt_lt] at hc
      have : len.sle x = true := by rw [BitVec.sle_iff_toInt_le]; omega
      simp only [Scalar.cmpi, IntOp.cmpi, this]
    rw [this, h1]; rfl

end Cert.KernelIdeal.Tile

end
-- ==== Proof.Oblig.lean ====
module

public import proofs.«01_k».proof.Proof.Data

/-!
# The body at one grid point

`obligation`: from what the buffers hold before a point, the body leaves what `dats` says they hold after it.
-/

@[expose] public section

noncomputable section

namespace Cert.KernelIdeal.Tile

open Idealize.ShloMosaic Idealize.ShloMosaic.TcCoe
open Cert.KernelIdeal Cert.KernelIdeal.Gen Cert.KernelIdeal.Facts₀ Cert.KernelIdeal.Facts
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Idealize.ShloMosaic.Pipeline (Dat Cfg Window)

variable {F : FTy → Type} [FloatOps F] [Named F]

variable (m : (ℓ : Loc nD τ sig) → Buf (Elt F) ℓ) (c : Dev nD)

/-- The configuration the proof runs at. -/
abbrev cfgA : Cfg sig Λ₀ := Pipeline.pin (pcfgs (F := F)) (adm m) 0

/-- An input's buffer holds its block, fetched at this point or before. -/
theorem before_y (t : Fin grid0.N) (d) : (dats m 0 c).before (0 : Fin 10) t d = (inAt m c t).y :=
  Dat.before_in_eq_fetched (dats m 0 c) (0 : Fin 10) rfl (fun _ => rfl) (fun _ _ _ => rfl) (fun _ => rfl) t d
theorem before_sc (t : Fin grid0.N) (d) : (dats m 0 c).before (1 : Fin 10) t d = (inAt m c t).sc :=
  Dat.before_in_eq_fetched (dats m 0 c) (1 : Fin 10) rfl (fun _ => rfl) (fun _ _ _ => rfl) (fun _ => rfl) t d
theorem before_dy (t : Fin grid0.N) (d) : (dats m 0 c).before (2 : Fin 10) t d = (inAt m c t).dy :=
  Dat.before_in_eq_fetched (dats m 0 c) (2 : Fin 10) rfl (fun _ => rfl) (fun _ _ _ => rfl) (fun _ => rfl) t d
theorem before_dsc (t : Fin grid0.N) (d) : (dats m 0 c).before (3 : Fin 10) t d = (inAt m c t).dsc :=
  Dat.before_in_eq_fetched (dats m 0 c) (3 : Fin 10) rfl (fun _ => rfl) (fun _ _ _ => rfl) (fun _ => rfl) t d
theorem before_rs (t : Fin grid0.N) (d) : (dats m 0 c).before (4 : Fin 10) t d = (inAt m c t).rs :=
  Dat.before_in_eq_fetched (dats m 0 c) (4 : Fin 10) rfl (fun _ => rfl) (fun _ _ _ => rfl) (fun _ => rfl) t d
theorem before_ga (t : Fin grid0.N) (d) : (dats m 0 c).before (5 : Fin 10) t d = (inAt m c t).ga :=
  Dat.before_in_eq_fetched (dats m 0 c) (5 : Fin 10) rfl (fun _ => rfl) (fun _ _ _ => rfl) (fun _ => rfl) t d
theorem before_be (t : Fin grid0.N) (d) : (dats m 0 c).before (6 : Fin 10) t d = (inAt m c t).be :=
  Dat.before_in_eq_fetched (dats m 0 c) (6 : Fin 10) rfl (fun _ => rfl) (fun _ _ _ => rfl) (fun _ => rfl) t d

theorem live_dx (t : Fin grid0.N) : idle0 (lens m) 7 (grid0.coords t) = false := by
  have h := cond_or (grid0.coords t) ((lens m).atD 0 (k0_off1 (grid0.coords t)))
  dsimp only [idle0]
  rcases h with h | h <;> rw [h] <;> simp

theorem flush_ga (t : Fin grid0.N) : ((cfgA m).win (8 : Fin 10)).flush t = true ↔ t.val % 192 = 191 :=
  Pipeline.Window.flush_const _ rfl (fun _ _ => rfl) N_0 rfl t
theorem flush_be (t : Fin grid0.N) : ((cfgA m).win (9 : Fin 10)).flush t = true ↔ t.val % 192 = 191 :=
  Pipeline.Window.flush_const _ rfl (fun _ _ => rfl) N_0 rfl t

theorem cond4_last (t : Fin grid0.N) : k0_cond4 (grid0.coords t) = 1#1 ↔ t.val = 191 := by
  have h : t.val < 192 := N_0 ▸ t.isLt
  rw [cond4_iff, coord0, coord1]; omega

theorem overlay_rectG (X G : S1x1536.Idx → F .f32) : rectG.overlay X G = G := by
  funext j
  have e : rectG.emb j = j := by
    funext a; apply Fin.ext; rw [Rect.emb_apply]
    fin_cases a
    · change 0 + 1 * (j 0).val = (j 0).val; omega
    · change 0 + 1 * (j 1).val = (j 1).val; omega
  exact overlay_at rectG X G j e

theorem bodyV_acc (i : grid0.Coords) (v : In F) (o : Out F) : (bodyV i v o).acc = accV i v o.acc := by
  unfold bodyV stage4V
  generalize accV i v o.acc = p
  by_cases h : k0_cond4 i = 1#1
  · rw [if_pos h]
  · rw [if_neg h]

/-- What the body leaves at a point, from anything the buffers of the results hold. -/
theorem bodyV_at (t : Fin grid0.N) (X : Vec F S1x256x1536 .bf16) (f0 f1 : Vec F S8x1536 .f32) (a b : Vec F S1x1536 .f32)
    (h : t.val ≠ 0 → f0 = (accAt m c t.val).aDy ∧ f1 = (accAt m c t.val).aDyx) :
    (bodyV (grid0.coords t) (inAt m c t) ⟨⟨X, f0, f1⟩, a, b⟩).acc = accAt m c (t.val + 1) := by
  have e : cond1 (grid0.coords t) = 1#1 ∨ (f0 = (accAt m c t.val).aDy ∧ f1 = (accAt m c t.val).aDyx) := by
    by_cases h0 : t.val = 0
    · left; apply cond1_first
      · rw [coord0, h0]
      · rw [coord1, h0]
    · exact .inr (h h0)
  rw [bodyV_acc, accAt_succ]
  have h1 := accV_congr (grid0.coords t) (inAt m c t) ⟨X, f0, f1⟩ (accAt m c t.val) e
  have h2 := accV_dx (grid0.coords t) (inAt m c t) ⟨X, f0, f1⟩ (accAt m c t.val) (cond_or _ _)
  generalize accV (grid0.coords t) (inAt m c t) ⟨X, f0, f1⟩ = p at *
  generalize accV (grid0.coords t) (inAt m c t) (accAt m c t.val) = q at *
  cases p; cases q
  obtain ⟨h3, h4⟩ := h1
  dsimp only at h2 h3 h4
  rw [h2, h3, h4]

theorem bodyV_sums (i : grid0.Coords) (v : In F) (o : Out F) (h4 : k0_cond4 i = 1#1) :
    (bodyV i v o).dga = sumA (fun j => (bodyV i v o).acc.aDyx (rectB.emb j))
      ∧ (bodyV i v o).dbe = sumA (fun j => (bodyV i v o).acc.aDy (rectB.emb j)) := by
  unfold bodyV stage4V
  generalize accV i v o.acc = p
  rw [if_pos h4]
  exact ⟨overlay_rectG _ _, overlay_rectG _ _⟩

theorem bodyV_last (t : Fin grid0.N) (o : Out F) (h : (bodyV (grid0.coords t) (inAt m c t) o).acc = accAt m c (t.val + 1))
    (h4 : k0_cond4 (grid0.coords t) = 1#1) :
    (bodyV (grid0.coords t) (inAt m c t) o).dga = gammaAt m c (t.val + 1)
      ∧ (bodyV (grid0.coords t) (inAt m c t) o).dbe = betaAt m c (t.val + 1) := by
  unfold gammaAt betaAt
  rw [← h]
  exact bodyV_sums _ _ _ h4

theorem bodyV_early (i : grid0.Coords) (v : In F) (o : Out F) (h4 : ¬ k0_cond4 i = 1#1) :
    (bodyV i v o).dga = o.dga ∧ (bodyV i v o).dbe = o.dbe := by
  unfold bodyV stage4V
  generalize accV i v o.acc = p
  rw [if_neg h4]; exact ⟨rfl, rfl⟩

/-- What the column sums' buffers hold after a point: at the last one the sums, before it what they held. -/
theorem post_sum (w : Fin 10) (t : Fin grid0.N) (d : ((cfgA m).win w).block.Idx → Elt F ((cfgA m).win w).elt)
    (hi : (cfgA m).idle w (grid0.coords t) = !(k0_cond4 (grid0.coords t) == 1#1))
    (hl : (cfgA m).loose w = false)
    (hf : ((cfgA m).win w).flush t = true ↔ t.val % 192 = 191)
    (X : ((cfgA m).win w).block.Idx → Elt F ((cfgA m).win w).elt)
    (h1 : k0_cond4 (grid0.coords t) = 1#1 → X = (dats m 0 c).after w t)
    (h2 : ¬ k0_cond4 (grid0.coords t) = 1#1 → X = (dats m 0 c).before w t d) :
    (owns (c : Thread nD τ) (((cfgA m).win w).stage ((cfgA m).slots t w)) fullShare X
        : sProp (MT nD τ sig Unit (Elt F) ℕ (UR sig nD τ) ℕ))
      ⊢ (dats m 0 c).leaves w t := by
  have hN : t.val < 192 := N_0 ▸ t.isLt
  unfold Dat.leaves
  change _ ⊢ (match (cfgA m).idle w (grid0.coords t) with | true => _ | false => _)
  rw [hi, hl]
  by_cases h4 : k0_cond4 (grid0.coords t) = 1#1
  · rw [h1 h4, h4]; exact .rfl
  · have hf' : ((cfgA m).win w).flush t = false := by
      rw [Bool.eq_false_iff, Ne, hf]; rw [cond4_last] at h4; omega
    rw [h2 h4, show (k0_cond4 (grid0.coords t) == 1#1) = false by simpa using h4, hf']
    change _ ⊢ iprop(∃ d, owns (c : Thread nD τ) (((cfgA m).win w).stage ((cfgA m).slots t w)) fullShare
      ((dats m 0 c).before w t d))
    iintro H; iexists d; iexact H

/-- The lengths as the body reads them, at half of the share. -/
theorem tables_eq : (Pipeline.ΦT pre0 (lens m) c : sProp (MT nD τ sig Unit (Elt F) ℕ (UR sig nD τ) ℕ))
    = owns (c : Thread nD τ) (Memref.whole main_arg7) fullShare.right (lenV m) := by
  refine Eq.trans ?_ (owns_whole _ _ _ _).symm
  unfold Pipeline.ΦT Pipeline.prefHeld
  rw [show (Finset.univ : Finset (Fin pre0.K)) = {0} from rfl, Idealize.SL.BI.bigSep_singleton]
  rfl

theorem Φ_castSucc (t : Fin grid0.N) : (dats m 0 c).Φ (Fin.castSucc t) = inv m c t.val := by
  dsimp only [dats]
  exact Pipeline.Dat.Φ_castSucc (fun n _ => inv m c n) t

theorem Φ_succ (t : Fin grid0.N) : (dats m 0 c).Φ (Fin.succ t) = inv m c (t.val + 1) := by
  dsimp only [dats]; rfl

/-- The kernel's variants: none. -/
abbrev 𝒱₀ : Variants := Variants.none

/-- The body's call. -/
theorem call_eq (t : Fin grid0.N) : (defs₀ (F := F)) .tc (cfgA m).body ((cfgA m).bodyArgs t ((cfgA m).slots t))
    = body (((cfgA m).win 0).stage ((cfgA m).slots t 0)) (((cfgA m).win 2).stage ((cfgA m).slots t 2))
      (((cfgA m).win 7).stage ((cfgA m).slots t 7)) (Facts₀.hstage0_7 (((cfgA m).slots t 7).cast Facts₀.nbuf0_7))
      (Memref.whole cc0_scratch0) (Memref.whole cc0_scratch1)
      (grid0.coords t) (Memref.whole main_arg7) (((cfgA m).win 1).stage ((cfgA m).slots t 1))
      (((cfgA m).win 3).stage ((cfgA m).slots t 3)) (((cfgA m).win 4).stage ((cfgA m).slots t 4))
      (((cfgA m).win 5).stage ((cfgA m).slots t 5)) (((cfgA m).win 6).stage ((cfgA m).slots t 6))
      (((cfgA m).win 8).stage ((cfgA m).slots t 8)) (((cfgA m).win 9).stage ((cfgA m).slots t 9)) :=
  body_eq ..

local notation "𝕄" => MT nD τ sig Unit (Elt F) ℕ (UR sig nD τ) ℕ

section Point
variable (arg3 : Memref sig .tc .vmem S1x256x1536 .fp8e4m3) (arg4 : Memref sig .tc .vmem S12x8x256 .f32)
  (arg5 : Memref sig .tc .vmem S1x256x1536 .fp8e5m2) (arg6 : Memref sig .tc .vmem S8x256 .f32)
  (arg7 : Memref sig .tc .vmem S8x256 .f32) (arg8 : Memref sig .tc .vmem S1x1536 .f32)
  (arg9 : Memref sig .tc .vmem S1x1536 .f32) (arg10 : Memref sig .tc .vmem S1x256x1536 .bf16) (harg10 : arg10.IsWhole)
  (arg11 : Memref sig .tc .vmem S1x1536 .f32) (arg12 : Memref sig .tc .vmem S1x1536 .f32)

/-- The seven input blocks at a point, owned. -/
def ins (t : Fin grid0.N) : sProp 𝕄 :=
  iprop(owns (c : Thread nD τ) arg3 fullShare (inAt m c t).y ∗ owns (c : Thread nD τ) arg4 fullShare (inAt m c t).sc
    ∗ owns (c : Thread nD τ) arg5 fullShare (inAt m c t).dy ∗ owns (c : Thread nD τ) arg6 fullShare (inAt m c t).dsc
    ∗ owns (c : Thread nD τ) arg7 fullShare (inAt m c t).rs ∗ owns (c : Thread nD τ) arg8 fullShare (inAt m c t).ga
    ∗ owns (c : Thread nD τ) arg9 fullShare (inAt m c t).be)

/-- What the body leaves at a point, over any buffers. -/
theorem point (t : Fin grid0.N) (X : Vec F S1x256x1536 .bf16) (a b : Vec F S1x1536 .f32) :
    iprop(inv m c t.val ∗ ins m c arg3 arg4 arg5 arg6 arg7 arg8 arg9 t
        ∗ owns (c : Thread nD τ) arg10 fullShare X ∗ owns (c : Thread nD τ) arg11 fullShare a ∗ owns (c : Thread nD τ) arg12 fullShare b)
      ⊢ wp frame (wpE (defs₀ (F := F)) 𝒱₀ (c : Thread nD τ) none) Set.univ
        (body arg3 arg5 arg10 harg10 (Memref.whole cc0_scratch0) (Memref.whole cc0_scratch1) (grid0.coords t)
          (Memref.whole main_arg7) arg4 arg6 arg7 arg8 arg9 arg11 arg12) (fun _ =>
        (iprop(inv m c (t.val + 1) ∗ ins m c arg3 arg4 arg5 arg6 arg7 arg8 arg9 t
          ∗ owns (c : Thread nD τ) arg10 fullShare (accAt m c (t.val + 1)).dx
          ∗ ∃ a' b', ⌜(k0_cond4 (grid0.coords t) = 1#1 → a' = gammaAt m c (t.val + 1) ∧ b' = betaAt m c (t.val + 1))
              ∧ (¬ k0_cond4 (grid0.coords t) = 1#1 → a' = a ∧ b' = b)⌝
            ∗ owns (c : Thread nD τ) arg11 fullShare a' ∗ owns (c : Thread nD τ) arg12 fullShare b') : sProp 𝕄)) := by
  unfold inv ins
  rw [tables_eq]
  iintro ⟨⟨⟨%f0, %f1, %hf, H0, H1⟩, Hp, HT⟩, ⟨Hy, Hsc, Hdy, Hdsc, Hrs, Hga, Hbe⟩, Hx, Ha, Hb⟩
  have hacc := bodyV_at m c t X f0 f1 a b hf
  have hrun := run_body (defs := defs₀ (F := F)) (U := UR sig nD τ) (grid0.coords t) 𝒱₀ c none Set.univ
    (Memref.whole main_arg7) arg3 arg4 arg5 arg6 arg7 arg8 arg9 arg10 harg10 arg11 arg12
    (Memref.whole cc0_scratch0) (Memref.whole cc0_scratch1) fullShare.right (inAt m c t) ⟨⟨X, f0, f1⟩, a, b⟩
  have hlast := bodyV_last m c t ⟨⟨X, f0, f1⟩, a, b⟩ hacc
  have hearly := bodyV_early (grid0.coords t) (inAt m c t) ⟨⟨X, f0, f1⟩, a, b⟩
  rw [hacc] at hrun
  generalize bodyV (grid0.coords t) (inAt m c t) ⟨⟨X, f0, f1⟩, a, b⟩ = o at *
  unfold heldIn held heldSums at hrun
  ihave Hr := hrun $$ [HT Hsc Hdsc Hrs Hga Hbe Hy Hdy Hx H0 H1 Ha Hb]
  · isplitl [HT Hsc Hdsc Hrs Hga Hbe]
    · isplitl [HT]
      · iexact HT
      isplitl [Hsc]
      · iexact Hsc
      isplitl [Hdsc]
      · iexact Hdsc
      isplitl [Hrs]
      · iexact Hrs
      isplitl [Hga]
      · iexact Hga
      · iexact Hbe
    isplitl [Hy Hdy Hx H0 H1]
    · isplitl [Hy]
      · iexact Hy
      isplitl [Hdy]
      · iexact Hdy
      isplitl [Hx]
      · iexact Hx
      isplitl [H0]
      · iexact H0
      · iexact H1
    · isplitl [Ha]
      · iexact Ha
      · iexact Hb
  iapply (wp_wand _ _ _) $$ Hr
  iintro %u ⟨⟨HT, Hsc, Hdsc, Hrs, Hga, Hbe⟩, ⟨Hy, Hdy, Hx, H0, H1⟩, Ha, Hb⟩
  isplitl [H0 H1 Hp HT]
  · isplitl [H0 H1]
    · iexists (accAt m c (t.val + 1)).aDy, (accAt m c (t.val + 1)).aDyx
      isplitr
      · ipureintro; exact fun _ => ⟨rfl, rfl⟩
      isplitl [H0]
      · iexact H0
      · iexact H1
    isplitl [Hp]
    · iexact Hp
    · iexact HT
  isplitl [Hy Hsc Hdy Hdsc Hrs Hga Hbe]
  · isplitl [Hy]
    · iexact Hy
    isplitl [Hsc]
    · iexact Hsc
    isplitl [Hdy]
    · iexact Hdy
    isplitl [Hdsc]
    · iexact Hdsc
    isplitl [Hrs]
    · iexact Hrs
    isplitl [Hga]
    · iexact Hga
    · iexact Hbe
  isplitl [Hx]
  · iexact Hx
  iexists o.dga, o.dbe
  isplitr
  · ipureintro; exact ⟨hlast, hearly⟩
  isplitl [Ha]
  · iexact Ha
  · iexact Hb

end Point

/-- A window's buffer at a point. -/
abbrev buf (w : Fin 10) (t : Fin grid0.N) := ((cfgA m).win w).stage ((cfgA m).slots t w)

/-- The block of `dx` is written at every point. -/
theorem leaves_dx (t : Fin grid0.N) :
    (owns (c : Thread nD τ) (buf m 7 t) fullShare (accAt m c (t.val + 1)).dx : sProp 𝕄) ⊢ (dats m 0 c).leaves (7 : Fin 10) t := by
  unfold Dat.leaves
  change _ ⊢ (match (cfgA m).idle (7 : Fin 10) (grid0.coords t) with | true => _ | false => _)
  rw [show (cfgA m).idle (7 : Fin 10) (grid0.coords t) = false from live_dx m t]
  exact .rfl

/-- The body's obligation at every point. -/
theorem obligation : Pipeline.BodyObligationLoose (dats m 0 c) (defs₀ (F := F)) 𝒱₀ () Set.univ := by
  intro t
  rw [call_eq, Φ_castSucc, Φ_succ]
  refine (sep_mono .rfl (sep_mono .rfl (Entails.of_eq (bigSep_W0 _)))).trans ?_
  refine Entails.trans ?_ (wp_mono _ _ _ fun _ => sep_mono .rfl (sep_mono .rfl (Entails.of_eq (bigSep_W0 _).symm)))
  change iprop(inv m c t.val ∗ (dats m 0 c).owesAt () (Fin.castSucc t)
      ∗ (∃ d, owns (c : Thread nD τ) (buf m 0 t) fullShare ((dats m 0 c).before (0 : Fin 10) t d))
      ∗ (∃ d, owns (c : Thread nD τ) (buf m 1 t) fullShare ((dats m 0 c).before (1 : Fin 10) t d))
      ∗ (∃ d, owns (c : Thread nD τ) (buf m 2 t) fullShare ((dats m 0 c).before (2 : Fin 10) t d))
      ∗ (∃ d, owns (c : Thread nD τ) (buf m 3 t) fullShare ((dats m 0 c).before (3 : Fin 10) t d))
      ∗ (∃ d, owns (c : Thread nD τ) (buf m 4 t) fullShare ((dats m 0 c).before (4 : Fin 10) t d))
      ∗ (∃ d, owns (c : Thread nD τ) (buf m 5 t) fullShare ((dats m 0 c).before (5 : Fin 10) t d))
      ∗ (∃ d, owns (c : Thread nD τ) (buf m 6 t) fullShare ((dats m 0 c).before (6 : Fin 10) t d))
      ∗ (∃ d, owns (c : Thread nD τ) (buf m 7 t) fullShare ((dats m 0 c).before (7 : Fin 10) t d))
      ∗ (∃ d, owns (c : Thread nD τ) (buf m 8 t) fullShare ((dats m 0 c).before (8 : Fin 10) t d))
      ∗ (∃ d, owns (c : Thread nD τ) (buf m 9 t) fullShare ((dats m 0 c).before (9 : Fin 10) t d)))
    ⊢ wp _ _ _ _ (fun _ => iprop(inv m c (t.val + 1) ∗ (dats m 0 c).owesAt () (Fin.succ t)
      ∗ owns (c : Thread nD τ) (buf m 0 t) fullShare (inAt m c t).y
      ∗ owns (c : Thread nD τ) (buf m 1 t) fullShare (inAt m c t).sc
      ∗ owns (c : Thread nD τ) (buf m 2 t) fullShare (inAt m c t).dy
      ∗ owns (c : Thread nD τ) (buf m 3 t) fullShare (inAt m c t).dsc
      ∗ owns (c : Thread nD τ) (buf m 4 t) fullShare (inAt m c t).rs
      ∗ owns (c : Thread nD τ) (buf m 5 t) fullShare (inAt m c t).ga
      ∗ owns (c : Thread nD τ) (buf m 6 t) fullShare (inAt m c t).be
      ∗ (dats m 0 c).leaves (7 : Fin 10) t ∗ (dats m 0 c).leaves (8 : Fin 10) t ∗ (dats m 0 c).leaves (9 : Fin 10) t))
  iintro ⟨Hi, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_y, before_sc, before_dy, before_dsc, before_rs, before_ga, before_be]
  have hp := point m c (buf m 0 t) (buf m 1 t) (buf m 2 t) (buf m 3 t) (buf m 4 t) (buf m 5 t) (buf m 6 t) (buf m 7 t)
    (Facts₀.hstage0_7 (((cfgA m).slots t 7).cast Facts₀.nbuf0_7)) (buf m 8 t) (buf m 9 t) t ((dats m 0 c).before (7 : Fin 10) t d7) ((dats m 0 c).before (8 : Fin 10) t d8)
    ((dats m 0 c).before (9 : Fin 10) t d9)
  unfold ins at hp
  ihave Hr := hp $$ [Hi W0 W1 W2 W3 W4 W5 W6 W7 W8 W9]
  · isplitl [Hi]
    · iexact Hi
    isplitl [W0 W1 W2 W3 W4 W5 W6]
    · isplitl [W0]
      · iexact W0
      isplitl [W1]
      · iexact W1
      isplitl [W2]
      · iexact W2
      isplitl [W3]
      · iexact W3
      isplitl [W4]
      · iexact W4
      isplitl [W5]
      · iexact W5
      · iexact W6
    isplitl [W7]
    · iexact W7
    isplitl [W8]
    · iexact W8
    · iexact W9
  iapply (wp_wand _ _ _) $$ Hr
  iintro %u ⟨Hi, ⟨W0, W1, W2, W3, W4, W5, W6⟩, W7, %a', %b', %hab, W8, W9⟩
  have h8 := post_sum m c (8 : Fin 10) t d8 rfl rfl (flush_ga m t) a' (fun h => (hab.1 h).1) (fun h => (hab.2 h).1)
  have h9 := post_sum m c (9 : Fin 10) t d9 rfl rfl (flush_be m t) b' (fun h => (hab.1 h).2) (fun h => (hab.2 h).2)
  isplitl [Hi]
  · iexact Hi
  isplitl [Ho]
  · iexact Ho
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iapply (leaves_dx m c t); iexact W7
  isplitl [W8]
  · iapply h8; iexact W8
  · iapply h9; iexact W9

end Cert.KernelIdeal.Tile

end
-- ==== Proof.Run.lean ====
module

public import proofs.«01_k».proof.Proof.Oblig

/-!
# The run of the kernel

`run`: every run of the kernel ends, with every array at what the pipeline's data says, every other buffer as the host
operations left it, and every counter at zero. `run_args`: its arguments end unchanged.
-/

@[expose] public section

noncomputable section

namespace Cert.KernelIdeal.Tile

open Idealize.ShloMosaic Idealize.ShloMosaic.TcCoe
open Cert.KernelIdeal Cert.KernelIdeal.Gen
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Idealize.ShloMosaic.Pipeline (Dat Cfg Window)

variable {F : FTy → Type} [FloatOps F] [Named F]

variable (m : (ℓ : Loc nD τ sig) → Buf (Elt F) ℓ) (g : Dev nD → PrngReg)

theorem fresh0 : (hostOps0 : List (HloOp τ sig (Elt F))).Forall fun op => op.fresh = ∅ := ⟨rfl, rfl, rfl⟩

/-- The host operations leave every buffer but their own results as it was. -/
theorem V_arg (c : Dev nD) (b : Ref sig .tc) (h : b ∉ [main_v0, main_v1, main_v2]) : V m c b = m (c, b) :=
  StableHlo.after_of_writes_sub hostOps0 _ (StableHlo.forall_writes_sub_of_map rfl) h

/-- The invariant at the start. -/
theorem inv_in (c : Dev nD) :
    (iprop(Pipeline.ΦA spec0 c ∗ Pipeline.ΦT pre0 (lens m) c) : sProp (MT nD τ sig Unit (Elt F) ℕ (UR sig nD τ) ℕ)) ⊢ inv m c 0 := by
  unfold Pipeline.ΦA inv
  rw [scopedRest0_eq]
  iintro ⟨⟨⟨⟨%f0, H0⟩, ⟨%f1, H1⟩⟩, Hp⟩, HT⟩
  isplitl [H0 H1]
  · iexists f0, f1
    isplitr
    · ipureintro; exact fun h => absurd rfl h
    rw [owns_whole, owns_whole]
    isplitl [H0]
    · iexact H0
    · iexact H1
  isplitl [Hp]
  · iexact Hp
  · iexact HT

/-- The invariant at the end. -/
theorem inv_out (c : Dev nD) (n : ℕ) :
    inv m c n ⊢ (Pipeline.ΦA spec0 c : sProp (MT nD τ sig Unit (Elt F) ℕ (UR sig nD τ) ℕ)) := by
  unfold Pipeline.ΦA inv
  rw [scopedRest0_eq]
  simp only [owns_whole]
  iintro ⟨⟨%f0, %f1, -, H0, H1⟩, Hp, -⟩
  isplitl [H0 H1]
  · isplitl [H0]
    · iexists f0; iexact H0
    · iexists f1; iexact H1
  · iexact Hp

/-- Every run of the kernel. -/
theorem run : θ_run (defs (F := F)) (onTc (τ := τ) (main (F := F))) ⟨m, fun _ => 0, g⟩
    (fun r => Pipeline.FramePost (Pipeline.pin (pcfgs (F := F)) (adm m)) (dats m) 0 (V m) r ∧ r.2.sem = fun _ => 0) :=
  Pipeline.θ_run_frameP_track (pcfgs (F := F)) (adm m) (dats m) 0 launch0 (defs₀ (F := F)) 𝒱₀ m g main
    (fun c => obligation m c) (fun c w => by fin_cases w <;> rfl) (fun _ _ => rfl) (V m)
    (Pipeline.hmainP_prefix (pcfgs (F := F)) 0 (defs₀ (F := F)) 𝒱₀ m main hostOps0 hostOps0_sub fresh0 main_chain)
    (fun _ _ => rfl) (fun c k => by obtain rfl : c = 0 := Subsingleton.elim _ _; rfl)
    (fun c => inv_in m c) (fun c => inv_out m c _) (Q' := _) (hQ' := fun _ h => h)

/-- Its arguments end unchanged. -/
theorem run_args (r : PUnit × MemSt nD τ sig (Elt F))
    (h : Pipeline.FramePost (Pipeline.pin (pcfgs (F := F)) (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  obtain ⟨hw, hb⟩ := h c
  have keep : ∀ w : Fin 10, (win0 (adm m 0) w).isOut = false → ∀ n, (dats m 0 c).arrAt w n = V m c (Pipeline.arrRef spec0 w) :=
    fun w hw n => (dats m 0 c).arrAt_in w hw n
  have rest : ∀ b : Ref sig .tc, b ∈ Pipeline.restRefs sig spec0 → b ∈ Pipeline.restRefs sig (Pipeline.pin (pcfgs (F := F)) (adm m) 0).spec :=
    fun _ hb => hb
  refine ⟨?_, ?_, ?_, ?_, ?_, ?_, ?_, ?_⟩
  · exact ((hw (0 : Fin 10)).trans (keep 0 rfl _)).trans (V_arg m c main_arg0 (by decide))
  · exact (hb main_arg1 (rest main_arg1 (by decide))).trans (V_arg m c main_arg1 (by decide))
  · exact ((hw (2 : Fin 10)).trans (keep 2 rfl _)).trans (V_arg m c main_arg2 (by decide))
  · exact ((hw (3 : Fin 10)).trans (keep 3 rfl _)).trans (V_arg m c main_arg3 (by decide))
  · exact ((hw (4 : Fin 10)).trans (keep 4 rfl _)).trans (V_arg m c main_arg4 (by decide))
  · exact (hb main_arg5 (rest main_arg5 (by decide))).trans (V_arg m c main_arg5 (by decide))
  · exact (hb main_arg6 (rest main_arg6 (by decide))).trans (V_arg m c main_arg6 (by decide))
  · exact (hb main_arg7 (rest main_arg7 (by decide))).trans (V_arg m c main_arg7 (by decide))

end Cert.KernelIdeal.Tile

end
-- ==== Proof.Frames.lean ====
module

public import proofs.«01_k».proof.Defs
public import proofs.«01_k».proof.Proof.Run
public import proofs.«01_k».proof.Proof.Gen.Kernel
public import Idealize.ShloMosaic.Lib.Tactic

/-!
# The frames of the kernel

The kernel with its one named constant, read at bits with the constant's own bits, is the kernel as written (`same`):
so `run`, which holds at every reading of the floats, gives the frame of both.
-/

@[expose] public section

noncomputable section

namespace Cert.Frames

open Idealize.ShloMosaic Idealize.SL.Sem

/-- At bits a named constant is its own bits. -/
@[reducible] def namedBits : Named Bits := ⟨fun _ _ φ b => FloatOps.ofBits φ b⟩

/-- The frame of `KernelIdeal` read at bits. -/
def frameBits [hKernelIdeal : Cert.KernelIdeal.Facts] : Prop :=
  letI := namedBits
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

set_option maxHeartbeats 0 in
/-- It is the frame of `Kernel`: the two programs are the same. -/
theorem same [hKernel : Cert.Kernel.Facts] [hKernelIdeal : Cert.KernelIdeal.Facts] : frameBits = Cert.quiescent_Kernel := by
  sl_kernel_rfl

theorem frame_bits : frameBits (hKernelIdeal := Cert.KernelIdeal.Gen.facts) := by
  letI := namedBits
  intro m g _
  exact (θ_run _ _ _).mono (fun r h => ⟨fun c => Cert.KernelIdeal.Tile.run_args m r h.1 c, h.2⟩) (Cert.KernelIdeal.Tile.run m g)

/-- The kernel's frame. -/
theorem kernel : Cert.quiescent_Kernel (hKernel := Cert.Kernel.Gen.facts) := by
  rw [← same (hKernel := Cert.Kernel.Gen.facts) (hKernelIdeal := Cert.KernelIdeal.Gen.facts)]
  exact frame_bits

/-- The frame over the reals. -/
theorem kernelIdeal : Cert.quiescent_KernelIdeal (hKernelIdeal := Cert.KernelIdeal.Gen.facts) := by
  intro m g _
  exact (θ_run _ _ _).mono (fun r h => ⟨fun c => Cert.KernelIdeal.Tile.run_args m r h.1 c, h.2⟩) (Cert.KernelIdeal.Tile.run m g)

end Cert.Frames

end
-- ==== Proof.Spec.lean ====
module

public import Idealize.ShloMosaic.Lib.Pointwise

/-!
# The three results over the extended reals

The block-scaled backward pass of a layer norm, element by element: `dx`, `dgamma` and `dbeta` of the codes and the
scales of `y` and `dy`, the reciprocal deviations, `gamma`, `beta` and the lengths.
-/

@[expose] public section

noncomputable section

namespace Cert.Spec

open Idealize.ShloMosaic

/-- The arguments, by coordinates: the codes of `y` and its scale per row and block of 128 columns, the codes of `dy`
    and its scale per row, the reciprocal deviation of each row, `gamma`, `beta` and the lengths. -/
structure Args where
  yc : Fin 24 → Fin 2048 → Fin 1536 → EReal
  ys : Fin 24 → Fin 2048 → Fin 12 → EReal
  dc : Fin 24 → Fin 2048 → Fin 1536 → EReal
  ds : Fin 24 → Fin 2048 → EReal
  rs : Fin 24 → Fin 2048 → EReal
  ga : Fin 1536 → EReal
  be : Fin 1536 → EReal
  len : Fin 24 → BitVec 32

/-- The lane block a column lies in. -/
def blockOf (d : Fin 1536) : Fin 12 := ⟨d.val / 128, by omega⟩

/-- `gamma` kept away from zero. -/
def clamp (g : EReal) : EReal :=
  if 0 ≤ g then max g (Ideal.ofBits FTy.f32 1008981770#32) else min g (Ideal.ofBits FTy.f32 3156465418#32)

variable (a : Args) (b : Fin 24) (s : Fin 2048) (d : Fin 1536)

/-- Whether a row lies below its batch's length. -/
def valid : BitVec 1 := IntOp.cmpi .slt (BitVec.ofNat 32 s.val) (a.len b)

def dy : EReal := a.dc b s d * a.ds b s
def xhat : EReal := Ideal.div (a.yc b s d * a.ys b s (blockOf d) - a.be d) (clamp (a.ga d))
def g : EReal := dy a b s d * a.ga d

/-- The number of columns. -/
def width : EReal := Ideal.ofBits FTy.f32 1153433600#32

/-- The means over a row of `g` and of `g * xhat`. -/
def meanG : EReal := Ideal.div (∑ d, g a b s d) width
def meanGX : EReal := Ideal.div (∑ d, g a b s d * xhat a b s d) width

/-- The gradient of the input. -/
def dx : EReal := Scalar.select (valid a b s) (a.rs b s * (g a b s d - meanG a b s - xhat a b s d * meanGX a b s)) 0

/-- The gradients of `gamma` and `beta`: over all rows below their length. -/
def dgamma : EReal := ∑ b, ∑ s, Scalar.select (valid a b s) (dy a b s d * xhat a b s d) 0
def dbeta : EReal := ∑ b, ∑ s, Scalar.select (valid a b s) (dy a b s d) 0

end Cert.Spec

end
-- ==== Proof.Row.lean ====
module

public import proofs.«01_k».proof.Proof.Fold
public import proofs.«01_k».proof.Proof.Spec

/-!
# A tile of the kernel over the extended reals, element by element

`dxTile_at` reads the block of `dx` at a row and a column, `termDy_at` and `termDyx_at` what a chunk adds to an
accumulator. The sums by lane followed by the sum over the lanes are one sum over the columns.
-/

@[expose] public section

noncomputable section

namespace Cert.KernelIdeal.Tile

open Idealize.ShloMosaic Idealize.SL.Sem
open Cert.KernelIdeal Cert.KernelIdeal.Facts₀ Cert.KernelIdeal.Facts

/-! ## Three facts about the scalars -/

theorem eps_pos : (0 : EReal) < Ideal.ofBits FTy.f32 1008981770#32 := by
  have : Ideal.ofBits FTy.f32 1008981770#32 = (((10737418 : ℝ) * (2 : ℝ) ^ (-30 : ℤ) : ℝ) : EReal) := by
    simp [Ideal.ofBits, Ideal.ieee]
  rw [this]
  exact EReal.coe_pos.2 (by positivity)

theorem eps_neg : Ideal.ofBits FTy.f32 3156465418#32 < (0 : EReal) := by
  have : Ideal.ofBits FTy.f32 3156465418#32 = ((-(10737418 : ℝ) * (2 : ℝ) ^ (-30 : ℤ) : ℝ) : EReal) := by
    simp [Ideal.ofBits, Ideal.ieee]
  rw [this]
  exact EReal.coe_neg'.2 (by rw [neg_mul, neg_lt_zero]; positivity)

theorem clamp_ne_zero (g : EReal) : Cert.Spec.clamp g ≠ 0 := by
  unfold Cert.Spec.clamp
  split
  · exact ne_of_gt (lt_of_lt_of_le eps_pos (le_max_right _ _))
  · exact ne_of_lt (lt_of_le_of_lt (min_le_right _ _) eps_neg)

/-- Multiplying by the reciprocal is dividing. -/
theorem mul_div_one (x g : EReal) : x * Ideal.div 1 (Cert.Spec.clamp g) = Ideal.div x (Cert.Spec.clamp g) := by
  rw [Ideal.div, Ideal.div, if_neg (clamp_ne_zero g), if_neg (clamp_ne_zero g), one_mul]

/-- Multiplying by the constant `1 / 1536` is dividing by the number of columns. -/
theorem mul_inv_d (x : EReal) : x * Named.named (F := Ideal) κ "inv_d" (φ := .f32) 975874731#32 = Ideal.div x Cert.Spec.width := by
  have hw : Cert.Spec.width = ((1536 : ℝ) : EReal) := by
    unfold Cert.Spec.width
    simp [Ideal.ofBits, Ideal.ieee]
    rw [← EReal.coe_mul]
    norm_num
  rw [IdealRules.named_const.ideal_named_scalar _ _ _ ((1 / 1536 : ℝ) : EReal) rfl, hw, Ideal.div_coe (by norm_num)]

/-! ## Sums over the columns, the rows and the chunks -/

theorem foldl_add {ι : Type} (f : ι → EReal) : ∀ (l : List ι) (z : EReal),
    l.foldl (fun s k => s + f k) z = z + (l.map f).sum
  | [], z => (add_zero z).symm
  | k :: l, z => by rw [List.foldl_cons, foldl_add f l, List.map_cons, List.sum_cons, add_assoc]

theorem foldl_blocks (f : Fin 12 → EReal) (z : EReal) : blocks.foldl (fun s k => s + f k) z = z + ∑ k, f k := by
  rw [foldl_add, Fin.sum_univ_def]; rfl

theorem foldl_chunks (f : Fin 8 → EReal) (z : EReal) : chunks.foldl (fun s k => s + f k) z = z + ∑ k, f k := by
  rw [foldl_add, Fin.sum_univ_def]; rfl

/-- Column `l` of lane block `k`. -/
def colm (k : Fin 12) (l : Fin 128) : Fin 1536 := ⟨128 * k.val + l.val, by omega⟩

/-- Row `q` of chunk `r`. -/
def rowm (r : Fin 8) (q : Fin 32) : Fin 256 := ⟨32 * r.val + q.val, by omega⟩

theorem sum_columns (f : Fin 1536 → EReal) : ∑ l : Fin 128, ∑ k : Fin 12, f (colm k l) = ∑ d, f d := by
  rw [Fin.sum_univ_tiles 12 128 (by decide) f, Finset.sum_comm]
  refine Finset.sum_congr rfl fun k _ => Finset.sum_congr rfl fun l _ => congrArg f (Fin.ext ?_)
  change 128 * k.val + l.val = k.val * 128 + l.val
  omega

variable (Y : Vec Ideal S1x256x1536 .fp8e4m3) (D : Vec Ideal S1x256x1536 .fp8e5m2) (x : Ctx Ideal)

/-! ## A tile's quantities at a row and a column -/

/-- Whether the row lies below the length. -/
def tV (r : Fin 8) (q : Fin 32) : BitVec 1 :=
  IntOp.cmpi .slt (IntOp.addi (BitVec.ofNat 32 q.val) (Scalar.addi x.row0 (BitVec.ofNat 32 (32 * r.val)))) x.len

def tDy (n : Fin 256) (d : Fin 1536) : EReal := D (ix3 0 n d) * x.cols (ix2 n 12)
def tXh (n : Fin 256) (d : Fin 1536) : EReal :=
  (Y (ix3 0 n d) * x.cols (ix2 n ((Cert.Spec.blockOf d).castLE (by decide))) - x.be (ix2 0 d)) * x.inv (ix2 0 d)
def tG (n : Fin 256) (d : Fin 1536) : EReal := tDy D x n d * x.ga (ix2 0 d)

variable (r : Fin 8) (k : Fin 12) (q : Fin 32) (l : Fin 128)

theorem emb_rectT (z : Fin 1) : (rectT r k).emb (ix3 z q l) = ix3 0 (rowm r q) (colm k l) := by
  funext a
  apply Fin.ext
  rw [Rect.emb_apply]
  fin_cases a
  · change 0 + 1 * z.val = 0; omega
  · change 32 * r.val + 1 * q.val = 32 * r.val + q.val; omega
  · change 128 * k.val + 1 * l.val = 128 * k.val + l.val; omega

theorem blockOf_colm : Cert.Spec.blockOf (colm k l) = k := by
  apply Fin.ext
  change (128 * k.val + l.val) / 128 = k.val
  omega

theorem eq_zero_of_ne_one {b : BitVec 1} (h : b ≠ 1#1) : b = 0#1 := by
  revert h; revert b; decide

/-- A masked block of `dy`. -/
theorem dyM_at : dyM x r (fun j => D ((rectT r k).emb j)) (ix2 q l) = Scalar.select (tV x r q) (tDy D x (rowm r q) (colm k l)) 0 := by
  pointwise [dyM, maskRows, rowValid, dyOf, chunkCols, wide, col, emb_rectT]
  rfl

/-- A normalised block, where its rows are not masked away. -/
theorem xhM_at (hv : tV x r q = 1#1) : xhM x r k (fun j => Y ((rectT r k).emb j)) (ix2 q l) = tXh Y x (rowm r q) (colm k l) := by
  unfold tV at hv
  pointwise [xhM, xhOf, lane, maskRows, rowValid, yOf, chunkCols, wide, col, emb_rectT, hv]
  unfold tXh
  rw [blockOf_colm]
  rfl

/-- The product the second accumulator collects: masked rows give zero. -/
theorem dyxM_at : mulf (dyM x r (fun j => D ((rectT r k).emb j))) (xhM x r k (fun j => Y ((rectT r k).emb j))) (ix2 q l)
    = Scalar.select (tV x r q) (tDy D x (rowm r q) (colm k l) * tXh Y x (rowm r q) (colm k l)) 0 := by
  pointwise [dyM_at]
  by_cases hv : tV x r q = 1#1
  · rw [xhM_at Y x r k q l hv, hv]
  · rw [eq_zero_of_ne_one hv]; rfl

theorem foldl_addSums (j : S32x128.Idx) : ∀ (l : List (Fin 12)) (s : FVec Ideal S32x128 .f32 × FVec Ideal S32x128 .f32),
    (l.foldl (fun s k => addSums x r k (fun j => D ((rectT r k).emb j)) (fun j => Y ((rectT r k).emb j)) s) s).1 j
      = l.foldl (fun s k => s + gOf x.ga k (dyM x r (fun j => D ((rectT r k).emb j))) j) (s.1 j)
    ∧ (l.foldl (fun s k => addSums x r k (fun j => D ((rectT r k).emb j)) (fun j => Y ((rectT r k).emb j)) s) s).2 j
      = l.foldl (fun s k => s + mulf (gOf x.ga k (dyM x r (fun j => D ((rectT r k).emb j))))
          (xhM x r k (fun j => Y ((rectT r k).emb j))) j) (s.2 j)
  | [], _ => ⟨rfl, rfl⟩
  | k :: l, s => foldl_addSums j l (addSums x r k (fun j => D ((rectT r k).emb j)) (fun j => Y ((rectT r k).emb j)) s)

/-- A chunk's sums by lane. -/
theorem sumsV_1 : (sumsV Y D x r).1 (ix2 q l) = ∑ k, gOf x.ga k (dyM x r (fun j => D ((rectT r k).emb j))) (ix2 q l) := by
  unfold sumsV
  rw [(foldl_addSums Y D x r (ix2 q l) blocks zeroSums).1, foldl_blocks]
  refine Eq.trans (congrArg (· + _) (?_ : _ = (0 : EReal))) (zero_add _)
  pointwise [zeroSums]

theorem sumsV_2 : (sumsV Y D x r).2 (ix2 q l) = ∑ k, mulf (gOf x.ga k (dyM x r (fun j => D ((rectT r k).emb j))))
    (xhM x r k (fun j => Y ((rectT r k).emb j))) (ix2 q l) := by
  unfold sumsV
  rw [(foldl_addSums Y D x r (ix2 q l) blocks zeroSums).2, foldl_blocks]
  refine Eq.trans (congrArg (· + _) (?_ : _ = (0 : EReal))) (zero_add _)
  pointwise [zeroSums]

/-- The two means over a row below the length. -/
theorem mean_1 (hv : tV x r q = 1#1) (z : Fin 1) :
    meanOf (sumsV Y D x r).1 (ix2 q z) = Ideal.div (∑ d, tG D x (rowm r q) d) Cert.Spec.width := by
  pointwise [meanOf, sumsV_1, gOf, lane, dyM_at, hv]
  rw [mul_inv_d, ← sum_columns]
  rfl

theorem mean_2 (hv : tV x r q = 1#1) (z : Fin 1) : meanOf (sumsV Y D x r).2 (ix2 q z)
    = Ideal.div (∑ d, tG D x (rowm r q) d * tXh Y x (rowm r q) d) Cert.Spec.width := by
  pointwise [meanOf, sumsV_2, gOf, lane, dyM_at, xhM_at Y x r _ q _ hv, hv]
  rw [mul_inv_d, ← sum_columns]
  rfl

theorem inTile_ix3 (z : Fin 1) : inTile (ix3 z (rowm r q) (colm k l)) = ix3 0 q l := by
  funext a
  match a with
  | ⟨0, _⟩ => rfl
  | ⟨1, _⟩ => exact Fin.ext (show (32 * r.val + q.val) % 32 = q.val by omega)
  | ⟨2, _⟩ => exact Fin.ext (show (128 * k.val + l.val) % 128 = l.val by omega)

/-- The block of `dx` a tile leaves, at a row of a chunk and a column of a lane block. -/
theorem dxTile_at (z : Fin 1) : dxTile Y D x (ix3 z (rowm r q) (colm k l)) = Scalar.select (tV x r q)
    (x.cols (ix2 (rowm r q) 13) * (tG D x (rowm r q) (colm k l) - Ideal.div (∑ d, tG D x (rowm r q) d) Cert.Spec.width
      - tXh Y x (rowm r q) (colm k l) * Ideal.div (∑ d, tG D x (rowm r q) d * tXh Y x (rowm r q) d) Cert.Spec.width)) 0 := by
  unfold dxTile
  rw [show rowChunk (ix3 z (rowm r q) (colm k l) 1) = r from Fin.ext (show (32 * r.val + q.val) / 32 = r.val by omega),
    show colBlock (ix3 z (rowm r q) (colm k l) 2) = k from Fin.ext (show (128 * k.val + l.val) / 128 = k.val by omega),
    show inTile (ix3 z (rowm r q) (colm k l)) = ix3 0 q l from inTile_ix3 r k q l z]
  by_cases hv : tV x r q = 1#1
  · have hw := hv
    unfold tV at hw
    pointwise [dxBlk, dxOf, gOf, maskRows, rowValid, dyOf, yOf, chunkCols, wide, col, xhOf, lane, emb_rectT, hv, hw,
      mean_1 Y D x r q hv, mean_2 Y D x r q hv]
    unfold tXh
    rw [blockOf_colm]
    rfl
  · have hw := eq_zero_of_ne_one hv
    unfold tV at hw
    pointwise [dxBlk, dxOf, maskRows, rowValid, hw, eq_zero_of_ne_one hv]

theorem fold8_at (v : FVec Ideal S32x128 .f32) (i : Fin 8) :
    fold8 v (ix2 i l) = ∑ p : Fin 4, v (ix2 ⟨p.val * 8 + i.val, by omega⟩ l) := by
  pointwise [fold8]

theorem inAcc_ix2 (i : Fin 8) (d : Fin 1536) : inAcc (ix2 i d) = ix2 i ⟨d.val % 128, Nat.mod_lt _ (by decide)⟩ := by
  funext a
  match a with
  | ⟨0, _⟩ => rfl
  | ⟨1, _⟩ => rfl

/-- What a chunk adds to an accumulator, at row residue `i`. -/
theorem termDy_at (i : Fin 8) (d : Fin 1536) : termDy D x r (ix2 i d) = ∑ p : Fin 4,
    Scalar.select (tV x r ⟨p.val * 8 + i.val, by omega⟩) (tDy D x (rowm r ⟨p.val * 8 + i.val, by omega⟩) d) 0 := by
  have e : inAcc (ix2 i d) = ix2 i ⟨d.val % 128, Nat.mod_lt _ (by decide)⟩ := inAcc_ix2 i d
  have c : colm (colBlock d) ⟨d.val % 128, Nat.mod_lt _ (by decide)⟩ = d :=
    Fin.ext (show 128 * (d.val / 128) + d.val % 128 = d.val by omega)
  unfold termDy
  rw [e]
  rw [fold8_at]
  simp only [dyM_at, ix2_1, c]

theorem termDyx_at (i : Fin 8) (d : Fin 1536) : termDyx Y D x r (ix2 i d) = ∑ p : Fin 4,
    Scalar.select (tV x r ⟨p.val * 8 + i.val, by omega⟩) (tDy D x (rowm r ⟨p.val * 8 + i.val, by omega⟩) d
      * tXh Y x (rowm r ⟨p.val * 8 + i.val, by omega⟩) d) 0 := by
  have e : inAcc (ix2 i d) = ix2 i ⟨d.val % 128, Nat.mod_lt _ (by decide)⟩ := inAcc_ix2 i d
  have c : colm (colBlock d) ⟨d.val % 128, Nat.mod_lt _ (by decide)⟩ = d :=
    Fin.ext (show 128 * (d.val / 128) + d.val % 128 = d.val by omega)
  unfold termDyx
  rw [e]
  rw [fold8_at]
  simp only [dyxM_at, ix2_1, c]

end Cert.KernelIdeal.Tile

end
-- ==== Proof.Blocks.lean ====
module

public import proofs.«01_k».proof.Proof.Row
public import proofs.«01_k».proof.Proof.Run
public import Idealize.ShloMosaic.Lib.StableHlo.RunRead

/-!
# What the blocks of a grid point hold, as elements of the arguments

At the point of batch `b` and tile `j`, when tile `j` has a row below the length, row `n` of every block is row
`256 j + n` of the batch.
-/

@[expose] public section

noncomputable section

namespace Cert.KernelIdeal.Tile

open Idealize.ShloMosaic Idealize.ShloMosaic.TcCoe
open Cert.KernelIdeal Cert.KernelIdeal.Gen Cert.KernelIdeal.Facts₀ Cert.KernelIdeal.Facts

variable (m : (ℓ : Loc nD τ sig) → Buf (Elt Ideal) ℓ) (c : Dev nD)

/-- The arguments by coordinates. -/
def args : Cert.Spec.Args where
  yc b s d := m (c, main_arg0) (ix3 b s d)
  ys b s k := m (c, main_arg1) (ix3 b s k)
  dc b s d := m (c, main_arg2) (ix3 b s d)
  ds b s := m (c, main_arg3) (ix2 b s)
  rs b s := m (c, main_arg4) (ix2 b s)
  ga d := m (c, main_arg5) (ix1 d)
  be d := m (c, main_arg6) (ix1 d)
  len b := m (c, main_arg7) (ix1 b)

/-! ## What the host operations leave -/

theorem V_v0 : V m c main_v0 = transpose S12x24x2048 [2, 0, 1] (m (c, main_arg1)) Facts₀.transposes_S24x2048x12_S12x24x2048_2_0_1 :=
  (StableHlo.after_last_write (ops := hostOps0) (i := 0) [main_v1, main_v2] rfl rfl (by decide) (fun b => m (c, b))).trans
    (StableHlo.unary_result' ..)

theorem V_v1 : V m c main_v1 = shapeCast S1x1536 (m (c, main_arg5)) Facts₀.shapeCasts_S1536_S1x1536 :=
  (StableHlo.after_last_write (ops := hostOps0) (i := 1) [main_v2] rfl rfl (by decide) (fun b => m (c, b))).trans
    (StableHlo.reshape_result' ..)

theorem V_v2 : V m c main_v2 = shapeCast S1x1536 (m (c, main_arg6)) Facts₀.shapeCasts_S1536_S1x1536 :=
  (StableHlo.after_last_write (ops := hostOps0) (i := 2) [] rfl rfl (by decide) (fun b => m (c, b))).trans
    (StableHlo.reshape_result' ..)

/-- A vector as a matrix of one row. -/
theorem oneRow_at (X : FVec Ideal S1536 .f32) (hc : S1536.ShapeCasts S1x1536) (z : Fin 1) (d : Fin 1536) :
    shapeCast S1x1536 X hc (ix2 z d) = X (ix1 d) := by
  obtain rfl : z = 0 := Subsingleton.elim _ _
  pointwise

/-! ## The grid point's batch and tile -/

def bat (i : grid0.Coords) : Fin 24 := ⟨(i 0).val, (i 0).isLt⟩
def til (i : grid0.Coords) : Fin 8 := ⟨(i 1).val, (i 1).isLt⟩

/-- Row `n` of tile `j`. -/
def rowg (j : Fin 8) (n : Fin 256) : Fin 2048 := ⟨256 * j.val + n.val, by omega⟩

/-- The batch's place in its group of eight. -/
def sub (i : grid0.Coords) : Fin 8 := ⟨(i 0).val % 8, Nat.mod_lt _ (by decide)⟩

theorem off2_eq : ∀ i : grid0.Coords, k0_off2 i = ![0, (i 0).val % 8, 0] := by decide +kernel
theorem off3_eq : ∀ i : grid0.Coords, k0_off3 i = ![1, (i 0).val % 8, 0] := by decide +kernel
theorem off4_eq : ∀ i : grid0.Coords, k0_off4 i = ![2, (i 0).val % 8, 0] := by decide +kernel
theorem off5_eq : ∀ i : grid0.Coords, k0_off5 i = ![3, (i 0).val % 8, 0] := by decide +kernel
theorem off6_eq : ∀ i : grid0.Coords, k0_off6 i = ![4, (i 0).val % 8, 0] := by decide +kernel
theorem off7_eq : ∀ i : grid0.Coords, k0_off7 i = ![5, (i 0).val % 8, 0] := by decide +kernel
theorem off8_eq : ∀ i : grid0.Coords, k0_off8 i = ![6, (i 0).val % 8, 0] := by decide +kernel
theorem off9_eq : ∀ i : grid0.Coords, k0_off9 i = ![7, (i 0).val % 8, 0] := by decide +kernel
theorem off10_eq : ∀ i : grid0.Coords, k0_off10 i = ![8, (i 0).val % 8, 0] := by decide +kernel
theorem off11_eq : ∀ i : grid0.Coords, k0_off11 i = ![9, (i 0).val % 8, 0] := by decide +kernel
theorem off12_eq : ∀ i : grid0.Coords, k0_off12 i = ![10, (i 0).val % 8, 0] := by decide +kernel
theorem off13_eq : ∀ i : grid0.Coords, k0_off13 i = ![11, (i 0).val % 8, 0] := by decide +kernel
theorem off14_eq : ∀ i : grid0.Coords, k0_off14 i = ![(i 0).val % 8, 0] := by decide +kernel

variable (i : grid0.Coords) (v : In Ideal) (row0 len : BitVec 32)

/-- A loaded row of a scale table. -/
theorem rowS_at {off : Fin 3 → Nat} (h : ∀ a, off a + S1x1x256.size a ≤ S12x8x256.size a) (sc : Vec Ideal S12x8x256 .f32)
    (k : Fin 12) (b : Fin 8) (e : off = ![k.val, b.val, 0]) (n : Fin 256) (z z' : Fin 1) :
    rowS sc off h (ix3 z z' n) = sc (ix3 k b n) := by
  unfold rowS
  refine congrArg sc (funext fun a => Fin.ext ?_)
  rw [Rect.emb_apply]
  subst e
  match a with
  | ⟨0, _⟩ => show k.val + 1 * z.val = k.val; omega
  | ⟨1, _⟩ => show b.val + 1 * z'.val = b.val; omega
  | ⟨2, _⟩ => show 0 + 1 * n.val = n.val; omega

theorem rowT_at (t : Vec Ideal S8x256 .f32) (z : Fin 1) (n : Fin 256) : rowT i t (ix2 z n) = t (ix2 (sub i) n) := by
  unfold rowT
  refine congrArg t (funext fun a => Fin.ext ?_)
  rw [Rect.emb_apply]
  simp only [Rect.off_unit, Rect.stride_unit, off14_eq]
  match a with
  | ⟨0, _⟩ => show (i 0).val % 8 + 1 * z.val = (i 0).val % 8; omega
  | ⟨1, _⟩ => show 0 + 1 * n.val = n.val; omega

theorem rectG_emb (j : S1x1536.Idx) : rectG.emb j = j := by
  funext a; apply Fin.ext; rw [Rect.emb_apply]
  fin_cases a
  · change 0 + 1 * (j 0).val = (j 0).val; omega
  · change 0 + 1 * (j 1).val = (j 1).val; omega

theorem ctx_ga (z : Fin 1) (d : Fin 1536) : (ctxV i v row0 len).ga (ix2 z d) = v.ga (ix2 z d) := by
  obtain rfl : z = 0 := Subsingleton.elim _ _
  pointwise [ctxV, rectG_emb]

theorem ctx_be (z : Fin 1) (d : Fin 1536) : (ctxV i v row0 len).be (ix2 z d) = v.be (ix2 z d) := by
  obtain rfl : z = 0 := Subsingleton.elim _ _
  pointwise [ctxV, rectG_emb]

theorem ctx_inv (z : Fin 1) (d : Fin 1536) : (ctxV i v row0 len).inv (ix2 z d)
    = Ideal.div 1 (Cert.Spec.clamp (v.ga (ix2 z d))) := by
  obtain rfl : z = 0 := Subsingleton.elim _ _
  pointwise [ctxV, invG, clampG, rectG_emb]
  rfl

theorem ctx_cols (n : Fin 256) (k : Fin 12) : (ctxV i v row0 len).cols (ix2 n (k.castLE (by decide))) = v.sc (ix3 k (sub i) n) := by
  fin_cases k
  all_goals pointwise [ctxV, colsOf]
  · exact rowS_at _ v.sc 0 (sub i) (off2_eq i) n 0 0
  · exact rowS_at _ v.sc 1 (sub i) (off3_eq i) n 0 0
  · exact rowS_at _ v.sc 2 (sub i) (off4_eq i) n 0 0
  · exact rowS_at _ v.sc 3 (sub i) (off5_eq i) n 0 0
  · exact rowS_at _ v.sc 4 (sub i) (off6_eq i) n 0 0
  · exact rowS_at _ v.sc 5 (sub i) (off7_eq i) n 0 0
  · exact rowS_at _ v.sc 6 (sub i) (off8_eq i) n 0 0
  · exact rowS_at _ v.sc 7 (sub i) (off9_eq i) n 0 0
  · exact rowS_at _ v.sc 8 (sub i) (off10_eq i) n 0 0
  · exact rowS_at _ v.sc 9 (sub i) (off11_eq i) n 0 0
  · exact rowS_at _ v.sc 10 (sub i) (off12_eq i) n 0 0
  · exact rowS_at _ v.sc 11 (sub i) (off13_eq i) n 0 0

theorem ctx_cols12 (n : Fin 256) : (ctxV i v row0 len).cols (ix2 n 12) = v.dsc (ix2 (sub i) n) := by
  pointwise [ctxV, colsOf, rowT_at]

theorem ctx_cols13 (n : Fin 256) : (ctxV i v row0 len).cols (ix2 n 13) = v.rs (ix2 (sub i) n) := by
  pointwise [ctxV, colsOf, rowT_at]

/-! ## The blocks -/

variable (t : Fin grid0.N)

theorem lenAt_eq : lenAt i (lenV m) = (args m c).len (bat i) := by
  obtain rfl : c = 0 := Subsingleton.elim _ _
  unfold lenAt lenV lens args
  rw [show V m 0 (pre0.ref 0) = m (0, main_arg7) from V_arg m 0 main_arg7 (by decide)]
  refine congrArg (m (0, main_arg7)) (funext fun a => Fin.ext ?_)
  match a with
  | ⟨0, _⟩ => show k0_off1 i 0 + 1 * 0 = (i 0).val; rw [k0_off1_eq]; rfl

theorem word_eq : word (lens m) i = (args m c).len (bat i) := lenAt_eq m c i

/-- The tile the index maps pick at a point is the point's own. -/
def Own (i : grid0.Coords) : Prop := (tile (BitVec.ofNat 32 (i 1).val) (word (lens m) i)).toNat = (i 1).val

variable {m} {t}

theorem batch_val (i : grid0.Coords) : (BitVec.ofNat 32 (i 0).val).toNat = (i 0).val := by
  have h : (i 0).val < 24 := (i 0).isLt
  rw [BitVec.toNat_ofNat]; omega

theorem group_val (i : grid0.Coords) : (group (BitVec.ofNat 32 (i 0).val)).toNat = (i 0).val / 8 :=
  group_eq ⟨(i 0).val, (i 0).isLt⟩

/-! Where an element of a block lies in its array. -/

theorem emb_y (h : Own m (grid0.coords t)) (z : Fin 1) (n : Fin 256) (d : Fin 1536) :
    ((win0 (adm m 0) 0).blk t).view.emb (ix3 z n d) = ix3 (bat (grid0.coords t)) (rowg (til (grid0.coords t)) n) d := by
  have e : (win0 (adm m 0) 0).index t = _ := transform_0_eq (lens m) (grid0.coords t)
  funext a; apply Fin.ext
  match a with
  | ⟨0, _⟩ =>
    show (win0 (adm m 0) 0).index t 0 * 1 + 1 * z.val = (grid0.coords t 0).val
    rw [e]
    show (BitVec.ofNat 32 (grid0.coords t 0).val).toNat * 1 + 1 * z.val = (grid0.coords t 0).val
    rw [batch_val]; omega
  | ⟨1, _⟩ =>
    show (win0 (adm m 0) 0).index t 1 * 256 + 1 * n.val = 256 * (grid0.coords t 1).val + n.val
    rw [e]
    show (tile (BitVec.ofNat 32 (grid0.coords t 1).val) (word (lens m) (grid0.coords t))).toNat * 256 + 1 * n.val
      = 256 * (grid0.coords t 1).val + n.val
    rw [h]; omega
  | ⟨2, _⟩ =>
    show (win0 (adm m 0) 0).index t 2 * 1536 + 1 * d.val = d.val
    rw [e]
    show 0 * 1536 + 1 * d.val = d.val; omega

theorem emb_dy (h : Own m (grid0.coords t)) (z : Fin 1) (n : Fin 256) (d : Fin 1536) :
    ((win0 (adm m 0) 2).blk t).view.emb (ix3 z n d) = ix3 (bat (grid0.coords t)) (rowg (til (grid0.coords t)) n) d := by
  have e : (win0 (adm m 0) 2).index t = _ := transform_2_eq (lens m) (grid0.coords t)
  funext a; apply Fin.ext
  match a with
  | ⟨0, _⟩ =>
    show (win0 (adm m 0) 2).index t 0 * 1 + 1 * z.val = (grid0.coords t 0).val
    rw [e]
    show (BitVec.ofNat 32 (grid0.coords t 0).val).toNat * 1 + 1 * z.val = (grid0.coords t 0).val
    rw [batch_val]; omega
  | ⟨1, _⟩ =>
    show (win0 (adm m 0) 2).index t 1 * 256 + 1 * n.val = 256 * (grid0.coords t 1).val + n.val
    rw [e]
    show (tile (BitVec.ofNat 32 (grid0.coords t 1).val) (word (lens m) (grid0.coords t))).toNat * 256 + 1 * n.val
      = 256 * (grid0.coords t 1).val + n.val
    rw [h]; omega
  | ⟨2, _⟩ =>
    show (win0 (adm m 0) 2).index t 2 * 1536 + 1 * d.val = d.val
    rw [e]
    show 0 * 1536 + 1 * d.val = d.val; omega

theorem emb_sc (h : Own m (grid0.coords t)) (k : Fin 12) (n : Fin 256) :
    ((win0 (adm m 0) 1).blk t).view.emb (ix3 k (sub (grid0.coords t)) n)
      = ix3 k (bat (grid0.coords t)) (rowg (til (grid0.coords t)) n) := by
  have e : (win0 (adm m 0) 1).index t = _ := transform_1_eq (lens m) (grid0.coords t)
  funext a; apply Fin.ext
  match a with
  | ⟨0, _⟩ =>
    show (win0 (adm m 0) 1).index t 0 * 12 + 1 * k.val = k.val
    rw [e]
    show 0 * 12 + 1 * k.val = k.val; omega
  | ⟨1, _⟩ =>
    show (win0 (adm m 0) 1).index t 1 * 8 + 1 * ((grid0.coords t 0).val % 8) = (grid0.coords t 0).val
    rw [e]
    show (group (BitVec.ofNat 32 (grid0.coords t 0).val)).toNat * 8 + 1 * ((grid0.coords t 0).val % 8) = (grid0.coords t 0).val
    rw [group_val]; omega
  | ⟨2, _⟩ =>
    show (win0 (adm m 0) 1).index t 2 * 256 + 1 * n.val = 256 * (grid0.coords t 1).val + n.val
    rw [e]
    show (tile (BitVec.ofNat 32 (grid0.coords t 1).val) (word (lens m) (grid0.coords t))).toNat * 256 + 1 * n.val
      = 256 * (grid0.coords t 1).val + n.val
    rw [h]; omega

theorem emb_dsc (h : Own m (grid0.coords t)) (n : Fin 256) :
    ((win0 (adm m 0) 3).blk t).view.emb (ix2 (sub (grid0.coords t)) n) = ix2 (bat (grid0.coords t)) (rowg (til (grid0.coords t)) n) := by
  have e : (win0 (adm m 0) 3).index t = _ := transform_3_eq (lens m) (grid0.coords t)
  funext a; apply Fin.ext
  match a with
  | ⟨0, _⟩ =>
    show (win0 (adm m 0) 3).index t 0 * 8 + 1 * ((grid0.coords t 0).val % 8) = (grid0.coords t 0).val
    rw [e]
    show (group (BitVec.ofNat 32 (grid0.coords t 0).val)).toNat * 8 + 1 * ((grid0.coords t 0).val % 8) = (grid0.coords t 0).val
    rw [group_val]; omega
  | ⟨1, _⟩ =>
    show (win0 (adm m 0) 3).index t 1 * 256 + 1 * n.val = 256 * (grid0.coords t 1).val + n.val
    rw [e]
    show (tile (BitVec.ofNat 32 (grid0.coords t 1).val) (word (lens m) (grid0.coords t))).toNat * 256 + 1 * n.val
      = 256 * (grid0.coords t 1).val + n.val
    rw [h]; omega

theorem emb_rs (h : Own m (grid0.coords t)) (n : Fin 256) :
    ((win0 (adm m 0) 4).blk t).view.emb (ix2 (sub (grid0.coords t)) n) = ix2 (bat (grid0.coords t)) (rowg (til (grid0.coords t)) n) := by
  have e : (win0 (adm m 0) 4).index t = _ := transform_4_eq (lens m) (grid0.coords t)
  funext a; apply Fin.ext
  match a with
  | ⟨0, _⟩ =>
    show (win0 (adm m 0) 4).index t 0 * 8 + 1 * ((grid0.coords t 0).val % 8) = (grid0.coords t 0).val
    rw [e]
    show (group (BitVec.ofNat 32 (grid0.coords t 0).val)).toNat * 8 + 1 * ((grid0.coords t 0).val % 8) = (grid0.coords t 0).val
    rw [group_val]; omega
  | ⟨1, _⟩ =>
    show (win0 (adm m 0) 4).index t 1 * 256 + 1 * n.val = 256 * (grid0.coords t 1).val + n.val
    rw [e]
    show (tile (BitVec.ofNat 32 (grid0.coords t 1).val) (word (lens m) (grid0.coords t))).toNat * 256 + 1 * n.val
      = 256 * (grid0.coords t 1).val + n.val
    rw [h]; omega

theorem emb_ga (z : Fin 1) (d : Fin 1536) : ((win0 (adm m 0) 5).blk t).view.emb (ix2 z d) = ix2 z d := by
  funext a; apply Fin.ext
  match a with
  | ⟨0, _⟩ => show 0 * 1 + 1 * z.val = z.val; omega
  | ⟨1, _⟩ => show 0 * 1536 + 1 * d.val = d.val; omega

theorem emb_be (z : Fin 1) (d : Fin 1536) : ((win0 (adm m 0) 6).blk t).view.emb (ix2 z d) = ix2 z d := by
  funext a; apply Fin.ext
  match a with
  | ⟨0, _⟩ => show 0 * 1 + 1 * z.val = z.val; omega
  | ⟨1, _⟩ => show 0 * 1536 + 1 * d.val = d.val; omega

/-! What the blocks hold. -/

variable (h : Own m (grid0.coords t)) (n : Fin 256) (d : Fin 1536) (z : Fin 1)
include h

theorem in_y : (inAt m c t).y (ix3 z n d) = (args m c).yc (bat (grid0.coords t)) (rowg (til (grid0.coords t)) n) d := by
  show V m c main_arg0 (((win0 (adm m 0) 0).blk t).view.emb (ix3 z n d)) = _
  rw [emb_y h, V_arg m c main_arg0 (by decide)]; rfl

theorem in_dy : (inAt m c t).dy (ix3 z n d) = (args m c).dc (bat (grid0.coords t)) (rowg (til (grid0.coords t)) n) d := by
  show V m c main_arg2 (((win0 (adm m 0) 2).blk t).view.emb (ix3 z n d)) = _
  rw [emb_dy h, V_arg m c main_arg2 (by decide)]; rfl

theorem in_sc (k : Fin 12) : (inAt m c t).sc (ix3 k (sub (grid0.coords t)) n)
    = (args m c).ys (bat (grid0.coords t)) (rowg (til (grid0.coords t)) n) k := by
  show V m c main_v0 (((win0 (adm m 0) 1).blk t).view.emb (ix3 k (sub (grid0.coords t)) n)) = _
  rw [emb_sc h, V_v0]
  pointwise
  rfl

theorem in_dsc : (inAt m c t).dsc (ix2 (sub (grid0.coords t)) n)
    = (args m c).ds (bat (grid0.coords t)) (rowg (til (grid0.coords t)) n) := by
  show V m c main_arg3 (((win0 (adm m 0) 3).blk t).view.emb (ix2 (sub (grid0.coords t)) n)) = _
  rw [emb_dsc h, V_arg m c main_arg3 (by decide)]; rfl

theorem in_rs : (inAt m c t).rs (ix2 (sub (grid0.coords t)) n)
    = (args m c).rs (bat (grid0.coords t)) (rowg (til (grid0.coords t)) n) := by
  show V m c main_arg4 (((win0 (adm m 0) 4).blk t).view.emb (ix2 (sub (grid0.coords t)) n)) = _
  rw [emb_rs h, V_arg m c main_arg4 (by decide)]; rfl

omit h in
theorem in_ga : (inAt m c t).ga (ix2 z d) = (args m c).ga d := by
  show V m c main_v1 (((win0 (adm m 0) 5).blk t).view.emb (ix2 z d)) = _
  rw [emb_ga, V_v1, oneRow_at]
  rfl

omit h in
theorem in_be : (inAt m c t).be (ix2 z d) = (args m c).be d := by
  show V m c main_v2 (((win0 (adm m 0) 6).blk t).view.emb (ix2 z d)) = _
  rw [emb_be, V_v2, oneRow_at]
  rfl

/-! ## The tile's quantities are those of the arguments -/

/-- What the tile of a point is computed from. -/
abbrev ctxAt (m : (ℓ : Loc nD τ sig) → Buf (Elt Ideal) ℓ) (c : Dev nD) (t : Fin grid0.N) : Ctx Ideal :=
  ctxV (grid0.coords t) (inAt m c t) (row0At (grid0.coords t)) (lenAt (grid0.coords t) (inAt m c t).len)

theorem tDy_eq : tDy (inAt m c t).dy (ctxAt m c t) n d
    = Cert.Spec.dy (args m c) (bat (grid0.coords t)) (rowg (til (grid0.coords t)) n) d := by
  unfold tDy Cert.Spec.dy
  rw [in_dy c h, ctx_cols12, in_dsc c h]

theorem tG_eq : tG (inAt m c t).dy (ctxAt m c t) n d
    = Cert.Spec.g (args m c) (bat (grid0.coords t)) (rowg (til (grid0.coords t)) n) d := by
  unfold tG Cert.Spec.g
  rw [tDy_eq c h, ctx_ga, in_ga]

theorem tXh_eq : tXh (inAt m c t).y (ctxAt m c t) n d
    = Cert.Spec.xhat (args m c) (bat (grid0.coords t)) (rowg (til (grid0.coords t)) n) d := by
  unfold tXh Cert.Spec.xhat
  rw [in_y c h, ctx_cols, in_sc c h, ctx_be, in_be, ctx_inv, in_ga, mul_div_one]

theorem rs_eq : (ctxAt m c t).cols (ix2 n 13)
    = (args m c).rs (bat (grid0.coords t)) (rowg (til (grid0.coords t)) n) := by
  rw [ctx_cols13, in_rs c h]

omit h in
theorem tV_eq (r : Fin 8) (q : Fin 32) : tV (ctxAt m c t) r q
    = Cert.Spec.valid (args m c) (bat (grid0.coords t)) (rowg (til (grid0.coords t)) (rowm r q)) := by
  unfold tV Cert.Spec.valid
  show IntOp.cmpi .slt (IntOp.addi (BitVec.ofNat 32 q.val) (Scalar.addi (row0At (grid0.coords t)) (BitVec.ofNat 32 (32 * r.val))))
    (lenAt (grid0.coords t) (inAt m c t).len) = _
  rw [show (inAt m c t).len = lenV m from rfl, lenAt_eq m c]
  refine congrArg (fun w => IntOp.cmpi .slt w _) ?_
  have hj : (grid0.coords t 1).val < 8 := (grid0.coords t 1).isLt
  apply BitVec.eq_of_toNat_eq
  show ((BitVec.ofNat 32 q.val) + ((BitVec.ofNat 32 (grid0.coords t 1).val * 256#32) + BitVec.ofNat 32 (32 * r.val))).toNat
    = (BitVec.ofNat 32 (256 * (grid0.coords t 1).val + (32 * r.val + q.val))).toNat
  simp only [BitVec.toNat_add, BitVec.toNat_mul, BitVec.toNat_ofNat]
  omega

/-! ## Which tiles have a row below the length -/

omit h in
/-- The tile's run is on exactly when its first row is below the length. -/
theorem cond3_iff (len : BitVec 32) : k0_cond3 i len = 1#1 ↔ (256 * (i 1).val : Int) < len.toInt := by
  have hj : (i 1).val < 8 := (i 1).isLt
  have e : (Scalar.muli (BitVec.ofNat 32 (i 1).val) 256#32) = BitVec.ofNat 32 (256 * (i 1).val) := by
    apply BitVec.eq_of_toNat_eq
    show ((BitVec.ofNat 32 (i 1).val) * 256#32).toNat = _
    simp only [BitVec.toNat_mul, BitVec.toNat_ofNat]
    omega
  have h1 : ∀ b : Bool, (Scalar.cmpi .ne (Scalar.extui (BitVec.ofBool b : BitVec 1) : BitVec 32) 0#32) = BitVec.ofBool b := by decide
  unfold k0_cond3
  dsimp only
  rw [e, show Scalar.cmpi .slt (BitVec.ofNat 32 (256 * (i 1).val)) len = BitVec.ofBool ((BitVec.ofNat 32 (256 * (i 1).val)).slt len) from rfl, h1]
  have h2 : ∀ b : Bool, BitVec.ofBool b = 1#1 ↔ b = true := by decide
  rw [h2, BitVec.slt_iff_toInt_lt, toInt_ofNat (by omega)]
  push_cast
  rfl

omit h in
/-- A row is below the length. -/
theorem valid_iff (a : Cert.Spec.Args) (b : Fin 24) (s : Fin 2048) : Cert.Spec.valid a b s = 1#1 ↔ (s.val : Int) < (a.len b).toInt := by
  unfold Cert.Spec.valid
  have h2 : ∀ b : Bool, BitVec.ofBool b = 1#1 ↔ b = true := by decide
  rw [show IntOp.cmpi .slt (BitVec.ofNat 32 s.val) (a.len b) = BitVec.ofBool ((BitVec.ofNat 32 s.val).slt (a.len b)) from rfl, h2,
    BitVec.slt_iff_toInt_lt, toInt_ofNat (by omega)]

omit h in
/-- With the lengths below the bound, the index maps pick a running tile's own blocks. -/
theorem own_of_cond3 (hl : ((args m c).len (bat i)).toInt ≤ 2 ^ 31 - 256) (h3 : k0_cond3 i ((args m c).len (bat i)) = 1#1) : Own m i := by
  rw [cond3_iff] at h3
  unfold Own
  rw [word_eq m c]
  exact tile_eq (til i) h3 hl

omit h in
/-- A tile that does not run has no row below the length. -/
theorem invalid_of_not_cond3 (h3 : k0_cond3 i ((args m c).len (bat i)) ≠ 1#1) :
    Cert.Spec.valid (args m c) (bat i) (rowg (til i) n) = 0#1 := by
  apply eq_zero_of_ne_one
  rw [Ne, cond3_iff] at h3
  rw [Ne, valid_iff]
  intro hv
  apply h3
  have : ((rowg (til i) n).val : Int) = 256 * (i 1).val + n.val := by
    show ((256 * (i 1).val + n.val : ℕ) : Int) = _
    push_cast; rfl
  omega

end Cert.KernelIdeal.Tile

end
-- ==== Proof.Sums.lean ====
module

public import proofs.«01_k».proof.Proof.Blocks

/-!
# What the accumulators hold, and the block of `dx`

After a point the accumulators have received the point's rows below the length, each at its residue modulo eight; after
the last point their column sums are the sums over all rows. The block of `dx` a point leaves is that of the
specification.
-/

@[expose] public section

noncomputable section

namespace Cert.KernelIdeal.Tile

open Idealize.ShloMosaic Idealize.ShloMosaic.TcCoe
open Cert.KernelIdeal Cert.KernelIdeal.Gen Cert.KernelIdeal.Facts₀ Cert.KernelIdeal.Facts

/-! ## Rows by chunk, group of eight and residue -/

/-- Row `8 p + i` of a chunk. -/
def rowq (p : Fin 4) (i : Fin 8) : Fin 32 := ⟨p.val * 8 + i.val, by omega⟩

theorem sum_rows (f : Fin 2048 → EReal) :
    ∑ s, f s = ∑ j : Fin 8, ∑ r : Fin 8, ∑ p : Fin 4, ∑ i : Fin 8, f (rowg j (rowm r (rowq p i))) := by
  rw [Fin.sum_univ_tiles 8 256 (by decide) f]
  refine Finset.sum_congr rfl fun j _ => ?_
  rw [Fin.sum_univ_tiles 8 32 (by decide)]
  refine Finset.sum_congr rfl fun r _ => ?_
  rw [Fin.sum_univ_tiles 4 8 (by decide)]
  refine Finset.sum_congr rfl fun p _ => Finset.sum_congr rfl fun i _ => congrArg f (Fin.ext ?_)
  change j.val * 256 + (r.val * 32 + (p.val * 8 + i.val)) = 256 * j.val + (32 * r.val + (p.val * 8 + i.val))
  omega

variable (f : Fin 24 → Fin 2048 → EReal)

/-- The rows of a point's tile of residue `q`, summed. -/
def part (i : grid0.Coords) (q : Fin 8) : EReal :=
  ∑ r : Fin 8, ∑ p : Fin 4, f (bat i) (rowg (til i) (rowm r (rowq p q)))

/-- The points' parts, summed, are the sum over all rows. -/
theorem sum_parts : ∑ q : Fin 8, ∑ t : Fin grid0.N, part f (grid0.coords t) q = ∑ b, ∑ s, f b s := by
  rw [Finset.sum_comm]
  rw [Fin.sum_univ_tiles 24 8 (N := grid0.N) (by decide)]
  refine Finset.sum_congr rfl fun b _ => ?_
  rw [sum_rows]
  refine Finset.sum_congr rfl fun j _ => ?_
  have hb : bat (grid0.coords ⟨b.val * 8 + j.val, by rw [show grid0.N = 192 from rfl]; omega⟩) = b := by
    apply Fin.ext
    show (grid0.coords _ 0).val = b.val
    rw [coord0]
    show (b.val * 8 + j.val) / 8 % 24 = b.val
    omega
  have hj : til (grid0.coords ⟨b.val * 8 + j.val, by rw [show grid0.N = 192 from rfl]; omega⟩) = j := by
    apply Fin.ext
    show (grid0.coords _ 1).val = j.val
    rw [coord1]
    show (b.val * 8 + j.val) % 8 = j.val
    omega
  unfold part
  rw [hb, hj, Finset.sum_comm]
  refine Finset.sum_congr rfl fun r _ => ?_
  rw [Finset.sum_comm]

/-! ## The accumulators -/

variable (m : (ℓ : Loc nD τ sig) → Buf (Elt Ideal) ℓ) (c : Dev nD)

/-- What a row below its length adds to `dgamma` and to `dbeta`. -/
def addGa (a : Cert.Spec.Args) (d : Fin 1536) (b : Fin 24) (s : Fin 2048) : EReal :=
  Scalar.select (Cert.Spec.valid a b s) (Cert.Spec.dy a b s d * Cert.Spec.xhat a b s d) 0
def addBe (a : Cert.Spec.Args) (d : Fin 1536) (b : Fin 24) (s : Fin 2048) : EReal :=
  Scalar.select (Cert.Spec.valid a b s) (Cert.Spec.dy a b s d) 0

theorem cond1_iff (i : grid0.Coords) : cond1 i = 1#1 ↔ (i 0).val = 0 ∧ (i 1).val = 0 := by
  have h : ∀ (a : Fin 24) (b : Fin 8), (Scalar.cmpi .ne (Scalar.extui (Scalar.andi (Scalar.cmpi .eq (BitVec.ofNat 32 a.val) 0#32)
      (Scalar.cmpi .eq (BitVec.ofNat 32 b.val) 0#32)) : BitVec 32) 0#32) = 1#1 ↔ a.val = 0 ∧ b.val = 0 := by decide
  exact h ⟨(i 0).val, (i 0).isLt⟩ ⟨(i 1).val, (i 1).isLt⟩

/-- An accumulator's element before the point's rows are added. -/
def before (i : grid0.Coords) (x : EReal) : EReal := if cond1 i = 1#1 then 0 else x

theorem zeroA_at (q : Fin 8) (d : Fin 1536) : (zeroA : FVec Ideal S8x1536 .f32) (ix2 q d) = 0 := by
  pointwise [zeroA]

theorem emb_rectB (j : S8x1536.Idx) : rectB.emb j = j := by
  funext a; apply Fin.ext; rw [Rect.emb_apply]
  fin_cases a
  · change 0 + 1 * (j 0).val = (j 0).val; omega
  · change 0 + 1 * (j 1).val = (j 1).val; omega

variable (h : Acc Ideal) (i : grid0.Coords) (len : BitVec 32) (q : Fin 8) (d : Fin 1536)

theorem stage2V_aDy : (stage2V i len (stage1V i h)).aDy (ix2 q d) = before i (h.aDy (ix2 q d)) := by
  have e : (stage2V i len (stage1V i h)).aDy = (stage1V i h).aDy := by unfold stage2V; split <;> rfl
  rw [e]
  unfold stage1V before
  split
  · have e2 : rectB.overlay h.aDy (zeroA (F := Ideal)) (ix2 q d) = zeroA (F := Ideal) (ix2 q d) :=
      overlay_at rectB h.aDy (zeroA (F := Ideal)) (ix2 q d) (emb_rectB _)
    exact e2.trans (zeroA_at q d)
  · rfl

theorem stage2V_aDyx : (stage2V i len (stage1V i h)).aDyx (ix2 q d) = before i (h.aDyx (ix2 q d)) := by
  have e : (stage2V i len (stage1V i h)).aDyx = (stage1V i h).aDyx := by unfold stage2V; split <;> rfl
  rw [e]
  unfold stage1V before
  split
  · have e2 : rectB.overlay h.aDyx (zeroA (F := Ideal)) (ix2 q d) = zeroA (F := Ideal) (ix2 q d) :=
      overlay_at rectB h.aDyx (zeroA (F := Ideal)) (ix2 q d) (emb_rectB _)
    exact e2.trans (zeroA_at q d)
  · rfl

/-- The lengths are small enough for the index maps' arithmetic. -/
def Small : Prop := ∀ b, ((args m c).len b).toInt ≤ 2 ^ 31 - 256

variable {m c} (hs : Small m c) (t : Fin grid0.N)
include hs

/-- What a point adds to the accumulator of `dy`. -/
theorem accV_aDy : (accV (grid0.coords t) (inAt m c t) h).aDy (ix2 q d)
    = before (grid0.coords t) (h.aDy (ix2 q d)) + part (addBe (args m c) d) (grid0.coords t) q := by
  unfold accV stage3V
  by_cases h3 : k0_cond3 (grid0.coords t) (lenAt (grid0.coords t) (inAt m c t).len) = 1#1
  · rw [if_pos h3]
    have ho : Own m (grid0.coords t) := own_of_cond3 c _ (hs _) (by rw [← lenAt_eq m c]; exact h3)
    refine (workV_aDy _ _ _ _ _).trans ?_
    refine (foldl_chunks (fun r => termDy (inAt m c t).dy (ctxAt m c t) r (ix2 q d)) _).trans ?_
    rw [stage2V_aDy]
    unfold part addBe
    refine congrArg (before _ _ + ·) (Finset.sum_congr rfl fun r _ => (termDy_at _ _ _ _ _).trans (Finset.sum_congr rfl fun p _ => ?_))
    rw [tV_eq, tDy_eq c ho]; rfl
  · rw [if_neg h3, stage2V_aDy]
    have hz : part (addBe (args m c) d) (grid0.coords t) q = 0 := by
      unfold part addBe
      refine Finset.sum_eq_zero fun r _ => Finset.sum_eq_zero fun p _ => ?_
      rw [invalid_of_not_cond3 c _ _ (by rw [← lenAt_eq m c]; exact h3)]; rfl
    rw [hz, add_zero]

/-- What a point adds to the accumulator of `dy * xhat`. -/
theorem accV_aDyx : (accV (grid0.coords t) (inAt m c t) h).aDyx (ix2 q d)
    = before (grid0.coords t) (h.aDyx (ix2 q d)) + part (addGa (args m c) d) (grid0.coords t) q := by
  unfold accV stage3V
  by_cases h3 : k0_cond3 (grid0.coords t) (lenAt (grid0.coords t) (inAt m c t).len) = 1#1
  · rw [if_pos h3]
    have ho : Own m (grid0.coords t) := own_of_cond3 c _ (hs _) (by rw [← lenAt_eq m c]; exact h3)
    refine (workV_aDyx _ _ _ _ _).trans ?_
    refine (foldl_chunks (fun r => termDyx (inAt m c t).y (inAt m c t).dy (ctxAt m c t) r (ix2 q d)) _).trans ?_
    rw [stage2V_aDyx]
    unfold part addGa
    refine congrArg (before _ _ + ·) (Finset.sum_congr rfl fun r _ => (termDyx_at _ _ _ _ _ _).trans (Finset.sum_congr rfl fun p _ => ?_))
    rw [tV_eq, tDy_eq c ho, tXh_eq c ho]; rfl
  · rw [if_neg h3, stage2V_aDyx]
    have hz : part (addGa (args m c) d) (grid0.coords t) q = 0 := by
      unfold part addGa
      refine Finset.sum_eq_zero fun r _ => Finset.sum_eq_zero fun p _ => ?_
      rw [invalid_of_not_cond3 c _ _ (by rw [← lenAt_eq m c]; exact h3)]; rfl
    rw [hz, add_zero]

/-- A value that starts from zero at the first point and receives each point's part is the parts' sum. -/
theorem parts_upto (x : ℕ → EReal)
    (hx : ∀ t : Fin grid0.N, x (t.val + 1) = before (grid0.coords t) (x t.val) + part f (grid0.coords t) q) :
    ∀ n (hn : n < grid0.N), x (n + 1) = ∑ t : Fin (n + 1), part f (grid0.coords ⟨t.val, by omega⟩) q
  | 0, hn => by
    rw [hx ⟨0, hn⟩, Fin.sum_univ_one]
    unfold before
    rw [if_pos ((cond1_iff _).2 ⟨by rw [coord0]; exact (by decide : 0 / 8 % 24 = 0), by rw [coord1]; exact (by decide : 0 % 8 = 0)⟩), zero_add]
    rfl
  | n + 1, hn => by
    have hN : grid0.N = 192 := rfl
    rw [hx ⟨n + 1, hn⟩, Fin.sum_univ_castSucc]
    unfold before
    rw [if_neg fun hc => by
      have := (cond1_iff _).1 hc
      rw [coord0, coord1] at this
      dsimp only at this
      omega]
    rw [parts_upto x hx n (by omega)]
    rfl

/-- After the last point. -/
theorem accAt_aDy : (accAt m c grid0.N).aDy (ix2 q d) = ∑ t : Fin grid0.N, part (addBe (args m c) d) (grid0.coords t) q :=
  parts_upto (addBe (args m c) d) q hs (fun n => (accAt m c n).aDy (ix2 q d))
    (fun t => by rw [accAt_succ]; exact accV_aDy _ q d hs t) 191 (by decide)

theorem accAt_aDyx : (accAt m c grid0.N).aDyx (ix2 q d) = ∑ t : Fin grid0.N, part (addGa (args m c) d) (grid0.coords t) q :=
  parts_upto (addGa (args m c) d) q hs (fun n => (accAt m c n).aDyx (ix2 q d))
    (fun t => by rw [accAt_succ]; exact accV_aDyx _ q d hs t) 191 (by decide)

omit hs in
theorem sumA_at (v : FVec Ideal S8x1536 .f32) (z : Fin 1) : sumA v (ix2 z d) = ∑ i : Fin 8, v (ix2 i d) := by
  obtain rfl : z = 0 := Subsingleton.elim _ _
  pointwise [sumA]

/-- The two column sums after the last point. -/
theorem gammaAt_last (z : Fin 1) : gammaAt m c grid0.N (ix2 z d) = Cert.Spec.dgamma (args m c) d := by
  unfold gammaAt
  simp only [emb_rectB]
  rw [sumA_at]
  simp only [accAt_aDyx _ d hs]
  exact sum_parts _

theorem betaAt_last (z : Fin 1) : betaAt m c grid0.N (ix2 z d) = Cert.Spec.dbeta (args m c) d := by
  unfold betaAt
  simp only [emb_rectB]
  rw [sumA_at]
  simp only [accAt_aDy _ d hs]
  exact sum_parts _

/-! ## The block of `dx` -/

theorem accAt_dx (z : Fin 1) (n : Fin 256) : (accAt m c (t.val + 1)).dx (ix3 z n d)
    = Cert.Spec.dx (args m c) (bat (grid0.coords t)) (rowg (til (grid0.coords t)) n) d := by
  rw [accAt_succ]
  unfold accV stage3V
  by_cases h3 : k0_cond3 (grid0.coords t) (lenAt (grid0.coords t) (inAt m c t).len) = 1#1
  · rw [if_pos h3]
    have ho : Own m (grid0.coords t) := own_of_cond3 c _ (hs _) (by rw [← lenAt_eq m c]; exact h3)
    obtain ⟨r, p, rfl⟩ : ∃ r p, n = rowm r p :=
      ⟨⟨n.val / 32, by omega⟩, ⟨n.val % 32, by omega⟩, Fin.ext (show n.val = 32 * (n.val / 32) + n.val % 32 by omega)⟩
    obtain ⟨k, l, rfl⟩ : ∃ k l, d = colm k l :=
      ⟨⟨d.val / 128, by omega⟩, ⟨d.val % 128, by omega⟩, Fin.ext (show d.val = 128 * (d.val / 128) + d.val % 128 by omega)⟩
    rw [workV_dx]
    refine (dxTile_at (inAt m c t).y (inAt m c t).dy (ctxAt m c t) r k p l z).trans ?_
    simp only [tG_eq c ho, tXh_eq c ho, rs_eq c ho, tV_eq]
    rfl
  · rw [if_neg h3]
    unfold stage2V
    rw [if_pos ((cond_or _ _).resolve_right h3)]
    dsimp only
    refine (congrFun (overlay_rectX (F := Ideal) _ _) (ix3 z n d)).trans ?_
    unfold Cert.Spec.dx
    rw [invalid_of_not_cond3 c _ _ (by rw [← lenAt_eq m c]; exact h3)]
    pointwise

end Cert.KernelIdeal.Tile

end
-- ==== Proof.Final.lean ====
module

public import proofs.«01_k».proof.Proof.Sums

/-!
# The kernel's three results after the run

`dx` is written back at every point, block by block, the two sums at the last point: with the lengths small enough, the
arrays end at the results of the specification.
-/

@[expose] public section

noncomputable section

namespace Cert.KernelIdeal.Tile

open Idealize.ShloMosaic Idealize.ShloMosaic.TcCoe
open Cert.KernelIdeal Cert.KernelIdeal.Gen
open Idealize.ShloMosaic.Pipeline (Dat Cfg Window)

variable (m : (ℓ : Loc nD τ sig) → Buf (Elt Ideal) ℓ) (c : Dev nD)

/-! ## The three results as arrays -/

def resDx (a : Cert.Spec.Args) : Vec Ideal S24x2048x1536 .bf16 := fun j => Cert.Spec.dx a (j 0) (j 1) (j 2)
def resGa (a : Cert.Spec.Args) : Vec Ideal S1x1536 .f32 := fun j => Cert.Spec.dgamma a (j 1)
def resBe (a : Cert.Spec.Args) : Vec Ideal S1x1536 .f32 := fun j => Cert.Spec.dbeta a (j 1)

/-! ## `dx` -/

theorem sep_dx (i i' : grid0.Coords) (h : cc0_transform_7 i = cc0_transform_7 i') : i 1 = i' 1 := by
  have h1 : (BitVec.ofNat 32 (i 1).val).toNat = (BitVec.ofNat 32 (i' 1).val).toNat := congrFun h 1
  have l : (i 1).val < 8 := (i 1).isLt
  have l' : (i' 1).val < 8 := (i' 1).isLt
  rw [BitVec.toNat_ofNat, BitVec.toNat_ofNat] at h1
  apply Fin.ext
  omega

theorem flush_dx (t : Fin grid0.N) : ((cfgA m).win (7 : Fin 10)).flush t = true :=
  (Pipeline.Window.flush_reads _ rfl (1 : Fin 2) (by decide) (by show grid0.fixedAfter reads0_7 1 = true; decide) sep_dx (P := 1) (m := 0) (by decide) rfl t).2 (Nat.mod_one _)

theorem emb_dx (t : Fin grid0.N) (z : Fin 1) (n : Fin 256) (d : Fin 1536) :
    (((cfgA m).win (7 : Fin 10)).blk t).view.emb (ix3 z n d) = ix3 (bat (grid0.coords t)) (rowg (til (grid0.coords t)) n) d := by
  funext a; apply Fin.ext
  match a with
  | ⟨0, _⟩ =>
    show (BitVec.ofNat 32 (grid0.coords t 0).val).toNat * 1 + 1 * z.val = (grid0.coords t 0).val
    rw [batch_val]; omega
  | ⟨1, _⟩ =>
    have h : (grid0.coords t 1).val < 8 := (grid0.coords t 1).isLt
    show (BitVec.ofNat 32 (grid0.coords t 1).val).toNat * 256 + 1 * n.val = 256 * (grid0.coords t 1).val + n.val
    rw [BitVec.toNat_ofNat]; omega
  | ⟨2, _⟩ => show 0 * 1536 + 1 * d.val = d.val; omega

theorem flushed_dx (hs : Small m c) (t : Fin grid0.N) : (dats m 0 c).flushed (7 : Fin 10) t
    = (((cfgA m).win (7 : Fin 10)).blk t).view.read (Elt Ideal) (resDx (args m c)) := by
  funext j
  show (accAt m c (t.val + 1)).dx j = resDx (args m c) ((((cfgA m).win (7 : Fin 10)).blk t).view.emb j)
  obtain ⟨z, n, d, rfl⟩ : ∃ (z : Fin 1) (n : Fin 256) (d : Fin 1536), j = ix3 z n d := ⟨j 0, j 1, j 2, eq_ix3 _⟩
  rw [emb_dx, accAt_dx d hs]
  rfl

theorem covered_dx (j : S24x2048x1536.Idx) :
    ∃ t : Fin grid0.N, ((cfgA m).win (7 : Fin 10)).flush t = true ∧ j ∈ (((cfgA m).win (7 : Fin 10)).blk t).view.set := by
  obtain ⟨b, s, d, rfl⟩ : ∃ (b : Fin 24) (s : Fin 2048) (d : Fin 1536), j = ix3 b s d := ⟨j 0, j 1, j 2, eq_ix3 _⟩
  refine ⟨⟨b.val * 8 + s.val / 256, by rw [show grid0.N = 192 from rfl]; omega⟩, flush_dx m _, ?_⟩
  have h := (((cfgA m).win (7 : Fin 10)).blk (⟨b.val * 8 + s.val / 256, by rw [show grid0.N = 192 from rfl]; omega⟩ : Fin grid0.N)).view.emb_mem_set
    (ix3 (0 : Fin 1) (⟨s.val % 256, by omega⟩ : Fin 256) d)
  rw [emb_dx] at h
  have e : ix3 (bat (grid0.coords ⟨b.val * 8 + s.val / 256, by rw [show grid0.N = 192 from rfl]; omega⟩))
      (rowg (til (grid0.coords ⟨b.val * 8 + s.val / 256, by rw [show grid0.N = 192 from rfl]; omega⟩)) ⟨s.val % 256, by omega⟩) d = ix3 b s d := by
    refine (ix3_inj _ _ _ _ _ _).2 ⟨Fin.ext ?_, Fin.ext ?_, rfl⟩
    · show (grid0.coords _ 0).val = b.val
      rw [coord0]
      show (b.val * 8 + s.val / 256) / 8 % 24 = b.val
      omega
    · show 256 * (grid0.coords _ 1).val + s.val % 256 = s.val
      rw [coord1]
      show 256 * ((b.val * 8 + s.val / 256) % 8) + s.val % 256 = s.val
      omega
  rwa [e] at h

theorem final_dx (hs : Small m c) : (dats m 0 c).arrAt (7 : Fin 10) grid0.N = resDx (args m c) :=
  (dats m 0 c).arrAt_eq_of_cover (7 : Fin 10) (resDx (args m c)) (fun t _ => flushed_dx m c hs t) (covered_dx m)

/-! ## `dgamma` and `dbeta` -/

theorem emb_sums8 (t : Fin grid0.N) (j : S1x1536.Idx) : (((cfgA m).win (8 : Fin 10)).blk t).view.emb j = j := by
  funext a; apply Fin.ext
  match a with
  | ⟨0, _⟩ => show 0 * 1 + 1 * (j 0).val = (j 0).val; omega
  | ⟨1, _⟩ => show 0 * 1536 + 1 * (j 1).val = (j 1).val; omega

theorem emb_sums9 (t : Fin grid0.N) (j : S1x1536.Idx) : (((cfgA m).win (9 : Fin 10)).blk t).view.emb j = j := by
  funext a; apply Fin.ext
  match a with
  | ⟨0, _⟩ => show 0 * 1 + 1 * (j 0).val = (j 0).val; omega
  | ⟨1, _⟩ => show 0 * 1536 + 1 * (j 1).val = (j 1).val; omega

theorem last_of (t : Fin grid0.N) (h : t.val % 192 = 191) : t.val + 1 = grid0.N := by
  have h1 : t.val < 192 := N_0 ▸ t.isLt
  have h2 : grid0.N = 192 := N_0
  omega

theorem flushed_ga (hs : Small m c) (t : Fin grid0.N) (hf : ((cfgA m).win (8 : Fin 10)).flush t = true) :
    (dats m 0 c).flushed (8 : Fin 10) t = (((cfgA m).win (8 : Fin 10)).blk t).view.read (Elt Ideal) (resGa (args m c)) := by
  funext j
  show gammaAt m c (t.val + 1) j = resGa (args m c) ((((cfgA m).win (8 : Fin 10)).blk t).view.emb j)
  rw [emb_sums8, last_of t ((flush_ga m t).1 hf)]
  obtain ⟨z, d, rfl⟩ : ∃ (z : Fin 1) (d : Fin 1536), j = ix2 z d := ⟨j 0, j 1, eq_ix2 _⟩
  rw [gammaAt_last d hs]
  rfl

theorem flushed_be (hs : Small m c) (t : Fin grid0.N) (hf : ((cfgA m).win (9 : Fin 10)).flush t = true) :
    (dats m 0 c).flushed (9 : Fin 10) t = (((cfgA m).win (9 : Fin 10)).blk t).view.read (Elt Ideal) (resBe (args m c)) := by
  funext j
  show betaAt m c (t.val + 1) j = resBe (args m c) ((((cfgA m).win (9 : Fin 10)).blk t).view.emb j)
  rw [emb_sums9, last_of t ((flush_be m t).1 hf)]
  obtain ⟨z, d, rfl⟩ : ∃ (z : Fin 1) (d : Fin 1536), j = ix2 z d := ⟨j 0, j 1, eq_ix2 _⟩
  rw [betaAt_last d hs]
  rfl

theorem covered_ga (j : S1x1536.Idx) :
    ∃ t : Fin grid0.N, ((cfgA m).win (8 : Fin 10)).flush t = true ∧ j ∈ (((cfgA m).win (8 : Fin 10)).blk t).view.set :=
  ⟨⟨191, by decide⟩, (flush_ga m _).2 rfl, by
    have h := (((cfgA m).win (8 : Fin 10)).blk (⟨191, by decide⟩ : Fin grid0.N)).view.emb_mem_set j
    rwa [emb_sums8] at h⟩

theorem covered_be (j : S1x1536.Idx) :
    ∃ t : Fin grid0.N, ((cfgA m).win (9 : Fin 10)).flush t = true ∧ j ∈ (((cfgA m).win (9 : Fin 10)).blk t).view.set :=
  ⟨⟨191, by decide⟩, (flush_be m _).2 rfl, by
    have h := (((cfgA m).win (9 : Fin 10)).blk (⟨191, by decide⟩ : Fin grid0.N)).view.emb_mem_set j
    rwa [emb_sums9] at h⟩

theorem final_ga (hs : Small m c) : (dats m 0 c).arrAt (8 : Fin 10) grid0.N = resGa (args m c) :=
  (dats m 0 c).arrAt_eq_of_cover (8 : Fin 10) (resGa (args m c)) (fun t hf => flushed_ga m c hs t hf) (covered_ga m)

theorem final_be (hs : Small m c) : (dats m 0 c).arrAt (9 : Fin 10) grid0.N = resBe (args m c) :=
  (dats m 0 c).arrAt_eq_of_cover (9 : Fin 10) (resBe (args m c)) (fun t hf => flushed_be m c hs t hf) (covered_be m)

end Cert.KernelIdeal.Tile

end
-- ==== Proof.RefSpec.lean ====
module

public import proofs.«01_k».proof.Proof.Gen.ReferenceIdeal.Value
public import proofs.«01_k».proof.Proof.Spec

/-!
# The reference's three results are those of `Spec`
-/

@[expose] public section

noncomputable section

namespace Cert.ReferenceIdeal.Spec

open Idealize.ShloMosaic Cert.ReferenceIdeal Cert.ReferenceIdeal.Gen Cert.ReferenceIdeal.Value

/-- The arguments by coordinates. -/
def args (a0 : Vec Ideal S24x2048x1536 .fp8e4m3) (a1 : Vec Ideal S24x2048x12 .f32) (a2 : Vec Ideal S24x2048x1536 .fp8e5m2)
    (a3 a4 : Vec Ideal S24x2048 .f32) (a5 a6 : Vec Ideal S1536 .f32) (a7 : Vec Ideal S24 .i32) : Cert.Spec.Args where
  yc b s d := a0 (ix3 b s d)
  ys b s k := a1 (ix3 b s k)
  dc b s d := a2 (ix3 b s d)
  ds b s := a3 (ix2 b s)
  rs b s := a4 (ix2 b s)
  ga d := a5 (ix1 d)
  be d := a6 (ix1 d)
  len b := a7 (ix1 b)

variable (a0 : Vec Ideal S24x2048x1536 .fp8e4m3) (a1 : Vec Ideal S24x2048x12 .f32) (a2 : Vec Ideal S24x2048x1536 .fp8e5m2)
    (a3 a4 : Vec Ideal S24x2048 .f32) (a5 a6 : Vec Ideal S1536 .f32) (a7 : Vec Ideal S24 .i32)
    (b : Fin 24) (s : Fin 2048) (d : Fin 1536) (z : Fin 1)

/-- A sum over the first two axes of a rank-3 array. -/
theorem reduceAdd_rows {n0 n1 n2 : Nat} (h : (⟨3, ![n0, n1, n2]⟩ : Shape).Reduces [0, 1] ⟨1, ![n2]⟩)
    (v : (⟨3, ![n0, n1, n2]⟩ : Shape).Idx → EReal) (d : Fin n2) :
    Idealize.ShloMosaic.Ideal.reduceAdd h v (ix1 d) = ∑ b : Fin n0, ∑ s : Fin n1, v (ix3 b s d) := by
  have fiber : ∀ i, h.drop i = ix1 d ↔ ∃ k : Fin n0 × Fin n1, ix3 k.1 k.2 d = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine (Finset.sum_filter_eq_sum_of_fiber _ (fun k : Fin n0 × Fin n1 => ix3 k.1 k.2 d)
    (fun _ _ e => Prod.ext (congrFun e 0) (congrFun e 1)) fiber v).trans ?_
  simp only [Fintype.sum_prod_type]

theorem pay1_at : k0_pay1 (F := Ideal) a7 (ix3 b s z) = Cert.Spec.valid (args a0 a1 a2 a3 a4 a5 a6 a7) b s := by
  pointwise [k0_pay1]
  rfl

theorem pay5_at : k0_pay5 a2 a3 (ix3 b s d) = Cert.Spec.dy (args a0 a1 a2 a3 a4 a5 a6 a7) b s d := by
  pointwise [k0_pay5]
  rfl

theorem pay6_at : k0_pay6 a0 a1 a5 a6 (ix3 b s d) = Cert.Spec.xhat (args a0 a1 a2 a3 a4 a5 a6 a7) b s d := by
  pointwise [k0_pay6]
  rfl

theorem pay7_at : k0_pay7 a2 a3 a5 (ix3 b s d) = Cert.Spec.g (args a0 a1 a2 a3 a4 a5 a6 a7) b s d := by
  pointwise [k0_pay7, pay5_at a0 a1 a2 a3 a4 a5 a6 a7]
  rfl

theorem pay8_at : k0_pay8 a2 a3 a5 (ix3 b s z) = Cert.Spec.meanG (args a0 a1 a2 a3 a4 a5 a6 a7) b s := by
  pointwise [k0_pay8, pay7_at a0 a1 a2 a3 a4 a5 a6 a7]
  rfl

theorem pay9_at : k0_pay9 a0 a1 a2 a3 a5 a6 (ix3 b s d)
    = Cert.Spec.g (args a0 a1 a2 a3 a4 a5 a6 a7) b s d * Cert.Spec.xhat (args a0 a1 a2 a3 a4 a5 a6 a7) b s d := by
  pointwise [k0_pay9, pay7_at a0 a1 a2 a3 a4 a5 a6 a7, pay6_at a0 a1 a2 a3 a4 a5 a6 a7]

/-- A load of the whole of an array reads the array. -/
theorem pay10_eq : k0_pay10 a0 a1 a2 a3 a4 a5 a6 a7 = k0_pay5 a2 a3 := by
  unfold k0_pay10
  rw [View.ld_unit_zero (S := S24x2048x1536) hz2 _ a2, View.ld_unit_zero (S := S24x2048) hz3 _ a3]

theorem pay11_eq : k0_pay11 a0 a1 a2 a3 a4 a5 a6 a7 = k0_pay6 a0 a1 a5 a6 := by
  unfold k0_pay11
  rw [View.ld_unit_zero (S := S24x2048x1536) hz0 _ a0, View.ld_unit_zero (S := S24x2048x12) hz1 _ a1,
    View.ld_unit_zero (S := S1536) hz5 _ a5, View.ld_unit_zero (S := S1536) hz6 _ a6]

theorem pay10_at : k0_pay10 a0 a1 a2 a3 a4 a5 a6 a7 (ix3 b s d) = Cert.Spec.dy (args a0 a1 a2 a3 a4 a5 a6 a7) b s d := by
  rw [pay10_eq, pay5_at]

theorem pay11_at : k0_pay11 a0 a1 a2 a3 a4 a5 a6 a7 (ix3 b s d) = Cert.Spec.xhat (args a0 a1 a2 a3 a4 a5 a6 a7) b s d := by
  rw [pay11_eq, pay6_at]

/-- The reference's `dx`. -/
theorem G8_at : G8 a0 a1 a2 a3 a4 a5 a6 a7 (ix3 b s d) = Cert.Spec.dx (args a0 a1 a2 a3 a4 a5 a6 a7) b s d := by
  pointwise [G8, k0_pay2, pay1_at a0 a1 a2 a3 a4 a5 a6 a7, pay7_at a0 a1 a2 a3 a4 a5 a6 a7, pay8_at a0 a1 a2 a3 a4 a5 a6 a7,
    pay9_at a0 a1 a2 a3 a4 a5 a6 a7, pay11_at a0 a1 a2 a3 a4 a5 a6 a7]
  rfl

/-- The reference's `dgamma`. -/
theorem G9_at : G9 a0 a1 a2 a3 a4 a5 a6 a7 (ix2 z d) = Cert.Spec.dgamma (args a0 a1 a2 a3 a4 a5 a6 a7) d := by
  pointwise [G9, k0_pay3]
  rw [reduceAdd_rows]
  pointwise [pay1_at a0 a1 a2 a3 a4 a5 a6 a7, pay10_at, pay11_at]
  rfl

/-- The reference's `dbeta`. -/
theorem G10_at : G10 a0 a1 a2 a3 a4 a5 a6 a7 (ix2 z d) = Cert.Spec.dbeta (args a0 a1 a2 a3 a4 a5 a6 a7) d := by
  pointwise [G10, k0_pay4]
  rw [reduceAdd_rows]
  pointwise [pay1_at a0 a1 a2 a3 a4 a5 a6 a7, pay10_at]
  rfl

end Cert.ReferenceIdeal.Spec

end
-- ==== Proof.Algebraic.lean ====
module

public import proofs.«01_k».proof.Defs
public import proofs.«01_k».proof.Proof.Final
public import proofs.«01_k».proof.Proof.RefSpec

/-!
# The kernel and the reference compute the same over the extended reals

With every length at most `2 ^ 31 - 256` both end with the results of the specification.
-/

@[expose] public section

noncomputable section

namespace Cert.Algebraic

open Idealize.ShloMosaic Idealize.ShloMosaic.TcCoe Idealize.SL.Sem

/-- The side condition of the precondition. -/
theorem preFacts : Cert.Pre_lengths_small.Facts := ⟨by decide⟩

/-- The precondition, of one length. -/
theorem length_le [Cert.Pre_lengths_small.Facts] (a0 a1 a2 a3 a4 a5 a6) (a7 : IVec Cert.Pre_lengths_small.S24 32)
    (h : Cert.Pre_lengths_small.fn (F := Ideal) a0 a1 a2 a3 a4 a5 a6 a7 = fun _ => 1#1) (b : Fin 24) :
    (a7 (ix1 b)).toInt ≤ 2 ^ 31 - 256 := by
  have h1 : BitVec.ofBool ((a7 (ix1 b)).sle 2147483392#32) = 1#1 := congrFun h (ix1 b)
  have h2 : ∀ x : Bool, BitVec.ofBool x = 1#1 → x = true := by decide
  have h3 := h2 _ h1
  rw [BitVec.sle_iff_toInt_le] at h3
  exact h3

/-- The reference's results as arrays. -/
theorem ref_dx (a0 a1 a2 a3 a4 a5 a6 a7) : Cert.ReferenceIdeal.Value.G8 a0 a1 a2 a3 a4 a5 a6 a7
    = Cert.KernelIdeal.Tile.resDx (Cert.ReferenceIdeal.Spec.args a0 a1 a2 a3 a4 a5 a6 a7) := by
  funext j
  obtain ⟨b, s, d, rfl⟩ : ∃ (b : Fin 24) (s : Fin 2048) (d : Fin 1536), j = ix3 b s d := ⟨j 0, j 1, j 2, eq_ix3 _⟩
  exact Cert.ReferenceIdeal.Spec.G8_at ..

theorem ref_ga (a0 a1 a2 a3 a4 a5 a6 a7) : Cert.ReferenceIdeal.Value.G9 a0 a1 a2 a3 a4 a5 a6 a7
    = Cert.KernelIdeal.Tile.resGa (Cert.ReferenceIdeal.Spec.args a0 a1 a2 a3 a4 a5 a6 a7) := by
  funext j
  obtain ⟨z, d, rfl⟩ : ∃ (z : Fin 1) (d : Fin 1536), j = ix2 z d := ⟨j 0, j 1, eq_ix2 _⟩
  exact Cert.ReferenceIdeal.Spec.G9_at ..

theorem ref_be (a0 a1 a2 a3 a4 a5 a6 a7) : Cert.ReferenceIdeal.Value.G10 a0 a1 a2 a3 a4 a5 a6 a7
    = Cert.KernelIdeal.Tile.resBe (Cert.ReferenceIdeal.Spec.args a0 a1 a2 a3 a4 a5 a6 a7) := by
  funext j
  obtain ⟨z, d, rfl⟩ : ∃ (z : Fin 1) (d : Fin 1536), j = ix2 z d := ⟨j 0, j 1, eq_ix2 _⟩
  exact Cert.ReferenceIdeal.Spec.G10_at ..

theorem algebraic : Cert.algebraic_KernelIdeal_ReferenceIdeal_pre_lengths_small (hKernelIdeal := Cert.KernelIdeal.Gen.facts)
    (hReferenceIdeal := Cert.ReferenceIdeal.Gen.facts) (hPre_lengths_small := preFacts) := by
  intro m g m' g' hpre hargs
  have hs : ∀ c, Cert.KernelIdeal.Tile.Small m c := fun c b =>
    @length_le preFacts _ _ _ _ _ _ _ _ (hpre c) b
  refine ⟨fun c => Cert.KernelIdeal.Tile.resDx (Cert.KernelIdeal.Tile.args m c),
    fun c => Cert.KernelIdeal.Tile.resGa (Cert.KernelIdeal.Tile.args m c),
    fun c => Cert.KernelIdeal.Tile.resBe (Cert.KernelIdeal.Tile.args m c), ?_, ?_⟩
  · refine (θ_run _ _ _).mono (fun r h c => ?_) (Cert.KernelIdeal.Tile.run m g)
    have ha := Cert.KernelIdeal.Tile.run_args m r h.1 c
    refine ⟨((h.1 c).1 (7 : Fin 10)).trans (Cert.KernelIdeal.Tile.final_dx m c (hs c)),
      ((h.1 c).1 (8 : Fin 10)).trans (Cert.KernelIdeal.Tile.final_ga m c (hs c)),
      ((h.1 c).1 (9 : Fin 10)).trans (Cert.KernelIdeal.Tile.final_be m c (hs c)), ha⟩
  · refine (θ_run _ _ _).mono (fun r h c => ?_) (Cert.ReferenceIdeal.Value.run m' g')
    obtain ⟨h0, h1, h2, hr⟩ := h c
    obtain ⟨e0, e1, e2, e3, e4, e5, e6, e7⟩ := hargs c
    refine ⟨h0.trans ((ref_dx ..).trans ?_), h1.trans ((ref_ga ..).trans ?_), h2.trans ((ref_be ..).trans ?_), hr⟩
    all_goals rw [e0, e1, e2, e3, e4, e5, e6, e7]; rfl

end Cert.Algebraic

end
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Frame
public import proofs.«01_k».proof.Proof.Gen.ReferenceIdeal.Value

/-!
# The claims
-/

@[expose] public section

noncomputable section

namespace Cert.Proof

open Idealize.ShloMosaic Idealize.SL.Sem

/-- All claims. -/
theorem claim : Cert.Claim :=
  ⟨Cert.Kernel.Gen.facts, Cert.KernelIdeal.Gen.facts, Cert.ReferenceIdeal.Gen.facts, Cert.Algebraic.preFacts,
    Cert.Frames.kernel, Cert.Frames.kernelIdeal, fun m g _ => Cert.Frames.kernelIdeal m g trivial,
    fun m ρ _ => Cert.ReferenceIdeal.Gen.frame m ρ, fun m ρ _ => Cert.ReferenceIdeal.Gen.frame m ρ,
    IdealRules.named_const.statement _ _ _ _ _ rfl, Cert.Algebraic.algebraic⟩

end Cert.Proof

end
